-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sobel_weights [hPre_sobel_weights : Cert.Pre_sobel_weights.Facts] (m : (ℓ : Loc Cert.KernelIdeal.nD Cert.KernelIdeal.τ Cert.KernelIdeal.sig) → Buf (Elt Ideal) ℓ) : Prop :=
  ∀ c : Dev Cert.KernelIdeal.nD,
    (Cert.Pre_sobel_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sobel_weights [hPre_sobel_weights : Cert.Pre_sobel_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sobel_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sobel_weights [hKernelIdeal : Cert.KernelIdeal.Facts] [hPre_sobel_weights : Cert.Pre_sobel_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sobel_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sobel_weights [hReferenceIdeal : Cert.ReferenceIdeal.Facts] [hPre_sobel_weights : Cert.Pre_sobel_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sobel_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "a9" .f32 0x3D87D2E0#32 (((11185759 / 536870912) * (10 * Real.pi⁻¹) : ℝ) : EReal)
  ∧ IdealRules.named_const.Statement Cert.KernelIdeal.κ "a7" .f32 0xBE8ABEC7#32 (((-5713179 / 67108864) * (10 * Real.pi⁻¹) : ℝ) : EReal)
  ∧ IdealRules.named_const.Statement Cert.KernelIdeal.κ "a5" .f32 0x3F12CAC7#32 (((6044529 / 33554432) * (10 * Real.pi⁻¹) : ℝ) : EReal)
  ∧ IdealRules.named_const.Statement Cert.KernelIdeal.κ "a3" .f32 0xBF86937D#32 (((-2770753 / 8388608) * (10 * Real.pi⁻¹) : ℝ) : EReal)
  ∧ IdealRules.named_const.Statement Cert.KernelIdeal.κ "a1" .f32 0x404BB0E7#32 (((2096871 / 2097152) * (10 * Real.pi⁻¹) : ℝ) : EReal)

def algebraic_KernelIdeal_ReferenceIdeal_pre_sobel_weights [hKernelIdeal : Cert.KernelIdeal.Facts] [hReferenceIdeal : Cert.ReferenceIdeal.Facts] [hPre_sobel_weights : Cert.Pre_sobel_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sobel_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sobel_weights : Cert.Pre_sobel_weights.Facts),
    quiescent_Kernel (hKernel := hKernel)
    ∧ quiescent_KernelIdeal (hKernelIdeal := hKernelIdeal)
    ∧ quiescent_KernelIdeal_pre_sobel_weights (hKernelIdeal := hKernelIdeal) (hPre_sobel_weights := hPre_sobel_weights)
    ∧ quiescent_ReferenceIdeal (hReferenceIdeal := hReferenceIdeal)
    ∧ quiescent_ReferenceIdeal_pre_sobel_weights (hReferenceIdeal := hReferenceIdeal) (hPre_sobel_weights := hPre_sobel_weights)
    ∧ preserves_Kernel_KernelIdeal
    ∧ algebraic_KernelIdeal_ReferenceIdeal_pre_sobel_weights (hKernelIdeal := hKernelIdeal) (hReferenceIdeal := hReferenceIdeal) (hPre_sobel_weights := hPre_sobel_weights)
-- ==== Pre_sobel_weights.lean ====
abbrev S16x3x512x512 : Shape := ⟨4, ![16, 3, 512, 512]⟩
abbrev S2x1x3x3 : Shape := ⟨4, ![2, 1, 3, 3]⟩
abbrev S2 : Shape := ⟨1, ![2]⟩
abbrev S2x3x3 : Shape := ⟨3, ![2, 3, 3]⟩
abbrev S_ : Shape := ⟨0, ![]⟩

class Facts : Prop where
  bcast_S2x3x3_S2x1x3x3_0_2_3 : S2x3x3.BroadcastsInDim S2x1x3x3 (![0, 2, 3] : Fin 3 → Fin S2x1x3x3.rank)
  reducesTo_S2x1x3x3_S_d0_1_2_3 : S2x1x3x3.ReducesTo [0, 1, 2, 3] S_
  h_S_ : 0 < S_.numel

variable [Facts]

noncomputable abbrev lit0 : Fin 18 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32 | 9 => 0x3F800000#32 | 10 => 0x40000000#32 | 11 => 0x3F800000#32 | 12 => 0x00000000#32 | 13 => 0x00000000#32 | 14 => 0x00000000#32 | 15 => 0xBF800000#32
  | 16 => 0xC0000000#32 | 17 => 0xBF800000#32
  | _ => 0#32

def fn {F : FTy → Type} [FloatOps F] (main_arg0 : FVec F S16x3x512x512 .f32) (main_arg1 : FVec F S2x1x3x3 .f32) (main_arg2 : FVec F S2 .f32) : IVec S_ 1 :=
  let main_cst : FVec F S2x3x3 .f32 := fun i => FloatOps.ofBits .f32 (lit0 (S2x3x3.rowMajor i))
  let main_v0 : FVec F S2x1x3x3 .f32 := broadcastInDim S2x1x3x3 ![0, 2, 3] bcast_S2x3x3_S2x1x3x3_0_2_3 main_cst
  let main_v1 : IVec S2x1x3x3 1 := cmpf .oeq main_arg1 main_v0
  let main_c : IVec S_ 1 := constantI S_ 1 1#1
  let main_v2 : IVec S_ 1 := (fun x v => Host.reduce IntOp.andi x v reducesTo_S2x1x3x3_S_d0_1_2_3 h_S_) main_v1 main_c
  main_v2
-- ==== Kernel.lean ====
abbrev S16x3x512x512 : Shape := ⟨4, ![16, 3, 512, 512]⟩
abbrev S2x1x3x3 : Shape := ⟨4, ![2, 1, 3, 3]⟩
abbrev S2 : Shape := ⟨1, ![2]⟩
abbrev S16x10x64x64 : Shape := ⟨4, ![16, 10, 64, 64]⟩
abbrev S4x3x512x512 : Shape := ⟨4, ![4, 3, 512, 512]⟩
abbrev S4x10x64x64 : Shape := ⟨4, ![4, 10, 64, 64]⟩
abbrev S64x512 : Shape := ⟨2, ![64, 512]⟩
abbrev S1x1x512x512 : Shape := ⟨4, ![1, 1, 512, 512]⟩
abbrev S512x512 : Shape := ⟨2, ![512, 512]⟩
abbrev S1x512 : Shape := ⟨2, ![1, 512]⟩
abbrev S514x512 : Shape := ⟨2, ![514, 512]⟩
abbrev S514x1 : Shape := ⟨2, ![514, 1]⟩
abbrev S514x514 : Shape := ⟨2, ![514, 514]⟩
abbrev S512x514 : Shape := ⟨2, ![512, 514]⟩
abbrev S1 : Shape := ⟨1, ![1]⟩
abbrev S64x64 : Shape := ⟨2, ![64, 64]⟩
abbrev S63x64 : Shape := ⟨2, ![63, 64]⟩
abbrev S1x64 : Shape := ⟨2, ![1, 64]⟩
abbrev S64x63 : Shape := ⟨2, ![64, 63]⟩
abbrev S64x1 : Shape := ⟨2, ![64, 1]⟩
abbrev S1x64x64 : Shape := ⟨3, ![1, 64, 64]⟩
abbrev S10x64x64 : Shape := ⟨3, ![10, 64, 64]⟩
abbrev S1x10x64x64 : Shape := ⟨4, ![1, 10, 64, 64]⟩

abbrev nBuf : Space → Nat
  | .hbm => 4
  | .vmem => 4
  | .smem => 1
  | _ => 0

abbrev bufTy : (tb : Table) → Fin (tcTables nBuf tb) → BufTy
  | .hbm, ⟨0, _⟩ => ⟨S16x3x512x512, .f32⟩
  | .hbm, ⟨1, _⟩ => ⟨S2x1x3x3, .f32⟩
  | .hbm, ⟨2, _⟩ => ⟨S2, .f32⟩
  | .hbm, ⟨3, _⟩ => ⟨S16x10x64x64, .f32⟩
  | .local _ .vmem, ⟨0, _⟩ => ⟨S4x3x512x512, .f32⟩
  | .local _ .vmem, ⟨1, _⟩ => ⟨S4x3x512x512, .f32⟩
  | .local _ .vmem, ⟨2, _⟩ => ⟨S4x10x64x64, .f32⟩
  | .local _ .vmem, ⟨3, _⟩ => ⟨S4x10x64x64, .f32⟩
  | .local _ .smem, ⟨0, _⟩ => ⟨S2, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x10x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "a1" => some (((2096871 / 2097152) * (10 * Real.pi⁻¹) : ℝ) : EReal)
  | "a3" => some (((-2770753 / 8388608) * (10 * Real.pi⁻¹) : ℝ) : EReal)
  | "a5" => some (((6044529 / 33554432) * (10 * Real.pi⁻¹) : ℝ) : EReal)
  | "a7" => some (((-5713179 / 67108864) * (10 * Real.pi⁻¹) : ℝ) : EReal)
  | "a9" => some (((11185759 / 536870912) * (10 * Real.pi⁻¹) : ℝ) : EReal)
  | "third" => some ((1 / 3 : ℝ) : EReal)
  | _ => none
-- ==== ReferenceIdeal.lean ====
abbrev S16x3x512x512 : Shape := ⟨4, ![16, 3, 512, 512]⟩
abbrev S2x1x3x3 : Shape := ⟨4, ![2, 1, 3, 3]⟩
abbrev S2 : Shape := ⟨1, ![2]⟩
abbrev S_ : Shape := ⟨0, ![]⟩
abbrev S16x512x512 : Shape := ⟨3, ![16, 512, 512]⟩
abbrev S16x1x512 : Shape := ⟨3, ![16, 1, 512]⟩
abbrev S16x514x512 : Shape := ⟨3, ![16, 514, 512]⟩
abbrev S16x514x1 : Shape := ⟨3, ![16, 514, 1]⟩
abbrev S16x514x514 : Shape := ⟨3, ![16, 514, 514]⟩
abbrev S1x1x1x1 : Shape := ⟨4, ![1, 1, 1, 1]⟩
abbrev S1 : Shape := ⟨1, ![1]⟩
abbrev S16 : Shape := ⟨1, ![16]⟩
abbrev S16x1x1 : Shape := ⟨3, ![16, 1, 1]⟩
abbrev S512 : Shape := ⟨1, ![512]⟩
abbrev S1x512x1 : Shape := ⟨3, ![1, 512, 1]⟩
abbrev S1x1x512 : Shape := ⟨3, ![1, 1, 512]⟩
abbrev S16x10x512x512 : Shape := ⟨4, ![16, 10, 512, 512]⟩
abbrev S16x512x512x1 : Shape := ⟨4, ![16, 512, 512, 1]⟩
abbrev S16x512x512x4 : Shape := ⟨4, ![16, 512, 512, 4]⟩
abbrev S16x10x64x8x64x8 : Shape := ⟨6, ![16, 10, 64, 8, 64, 8]⟩
abbrev S16x10x64x64 : Shape := ⟨4, ![16, 10, 64, 64]⟩
abbrev S16x10x32x2x32x2 : Shape := ⟨6, ![16, 10, 32, 2, 32, 2]⟩
abbrev S10x2x2x16x32x32 : Shape := ⟨6, ![10, 2, 2, 16, 32, 32]⟩
abbrev S40x16384 : Shape := ⟨2, ![40, 16384]⟩
abbrev S16384 : Shape := ⟨1, ![16384]⟩
abbrev S1x16384 : Shape := ⟨2, ![1, 16384]⟩

abbrev nBuf : Space → Nat
  | .hbm => 357
  | .vmem => 0
  | .smem => 0
  | _ => 0

abbrev hbmTy0_0 (i : Nat) : BufTy := match i % 128 with
  | 0 => ⟨S16x3x512x512, .f32⟩
  | 1 => ⟨S2x1x3x3, .f32⟩
  | 2 => ⟨S2, .f32⟩
  | 3 => ⟨S_, .f32⟩
  | 4 => ⟨S16x512x512, .f32⟩
  | 5 => ⟨S_, .f32⟩
  | 6 => ⟨S16x512x512, .f32⟩
  | 7 => ⟨S16x512x512, .f32⟩
  | 8 => ⟨S16x1x512, .f32⟩
  | 9 => ⟨S16x1x512, .f32⟩
  | 10 => ⟨S16x514x512, .f32⟩
  | 11 => ⟨S16x514x1, .f32⟩
  | 12 => ⟨S16x514x1, .f32⟩
  | 13 => ⟨S16x514x514, .f32⟩
  | 14 => ⟨S16x512x512, .f32⟩
  | 15 => ⟨S1x1x1x1, .f32⟩
  | 16 => ⟨S_, .f32⟩
  | 17 => ⟨S16x512x512, .f32⟩
  | 18 => ⟨S16x512x512, .f32⟩
  | 19 => ⟨S_, .f32⟩
  | 20 => ⟨S16x512x512, .f32⟩
  | 21 => ⟨S16x512x512, .f32⟩
  | 22 => ⟨S16x512x512, .f32⟩
  | 23 => ⟨S1x1x1x1, .f32⟩
  | 24 => ⟨S_, .f32⟩
  | 25 => ⟨S16x512x512, .f32⟩
  | 26 => ⟨S16x512x512, .f32⟩
  | 27 => ⟨S16x512x512, .f32⟩
  | 28 => ⟨S16x512x512, .f32⟩
  | 29 => ⟨S1x1x1x1, .f32⟩
  | 30 => ⟨S_, .f32⟩
  | 31 => ⟨S16x512x512, .f32⟩
  | 32 => ⟨S16x512x512, .f32⟩
  | 33 => ⟨S16x512x512, .f32⟩
  | 34 => ⟨S16x512x512, .f32⟩
  | 35 => ⟨S1x1x1x1, .f32⟩
  | 36 => ⟨S_, .f32⟩
  | 37 => ⟨S16x512x512, .f32⟩
  | 38 => ⟨S16x512x512, .f32⟩
  | 39 => ⟨S16x512x512, .f32⟩
  | 40 => ⟨S16x512x512, .f32⟩
  | 41 => ⟨S1x1x1x1, .f32⟩
  | 42 => ⟨S_, .f32⟩
  | 43 => ⟨S16x512x512, .f32⟩
  | 44 => ⟨S16x512x512, .f32⟩
  | 45 => ⟨S16x512x512, .f32⟩
  | 46 => ⟨S16x512x512, .f32⟩
  | 47 => ⟨S1x1x1x1, .f32⟩
  | 48 => ⟨S_, .f32⟩
  | 49 => ⟨S16x512x512, .f32⟩
  | 50 => ⟨S16x512x512, .f32⟩
  | 51 => ⟨S16x512x512, .f32⟩
  | 52 => ⟨S16x512x512, .f32⟩
  | 53 => ⟨S1x1x1x1, .f32⟩
  | 54 => ⟨S_, .f32⟩
  | 55 => ⟨S16x512x512, .f32⟩
  | 56 => ⟨S16x512x512, .f32⟩
  | 57 => ⟨S16x512x512, .f32⟩
  | 58 => ⟨S16x512x512, .f32⟩
  | 59 => ⟨S1x1x1x1, .f32⟩
  | 60 => ⟨S_, .f32⟩
  | 61 => ⟨S16x512x512, .f32⟩
  | 62 => ⟨S16x512x512, .f32⟩
  | 63 => ⟨S16x512x512, .f32⟩
  | 64 => ⟨S16x512x512, .f32⟩
  | 65 => ⟨S1x1x1x1, .f32⟩
  | 66 => ⟨S_, .f32⟩
  | 67 => ⟨S16x512x512, .f32⟩
  | 68 => ⟨S16x512x512, .f32⟩
  | 69 => ⟨S16x512x512, .f32⟩
  | 70 => ⟨S1, .f32⟩
  | 71 => ⟨S_, .f32⟩
  | 72 => ⟨S16x512x512, .f32⟩
  | 73 => ⟨S16x512x512, .f32⟩
  | 74 => ⟨S16x512x512, .f32⟩
  | 75 => ⟨S1x1x1x1, .f32⟩
  | 76 => ⟨S_, .f32⟩
  | 77 => ⟨S16x512x512, .f32⟩
  | 78 => ⟨S16x512x512, .f32⟩
  | 79 => ⟨S_, .f32⟩
  | 80 => ⟨S16x512x512, .f32⟩
  | 81 => ⟨S16x512x512, .f32⟩
  | 82 => ⟨S16x512x512, .f32⟩
  | 83 => ⟨S1x1x1x1, .f32⟩
  | 84 => ⟨S_, .f32⟩
  | 85 => ⟨S16x512x512, .f32⟩
  | 86 => ⟨S16x512x512, .f32⟩
  | 87 => ⟨S16x512x512, .f32⟩
  | 88 => ⟨S16x512x512, .f32⟩
  | 89 => ⟨S1x1x1x1, .f32⟩
  | 90 => ⟨S_, .f32⟩
  | 91 => ⟨S16x512x512, .f32⟩
  | 92 => ⟨S16x512x512, .f32⟩
  | 93 => ⟨S16x512x512, .f32⟩
  | 94 => ⟨S16x512x512, .f32⟩
  | 95 => ⟨S1x1x1x1, .f32⟩
  | 96 => ⟨S_, .f32⟩
  | 97 => ⟨S16x512x512, .f32⟩
  | 98 => ⟨S16x512x512, .f32⟩
  | 99 => ⟨S16x512x512, .f32⟩
  | 100 => ⟨S16x512x512, .f32⟩
  | 101 => ⟨S1x1x1x1, .f32⟩
  | 102 => ⟨S_, .f32⟩
  | 103 => ⟨S16x512x512, .f32⟩
  | 104 => ⟨S16x512x512, .f32⟩
  | 105 => ⟨S16x512x512, .f32⟩
  | 106 => ⟨S16x512x512, .f32⟩
  | 107 => ⟨S1x1x1x1, .f32⟩
  | 108 => ⟨S_, .f32⟩
  | 109 => ⟨S16x512x512, .f32⟩
  | 110 => ⟨S16x512x512, .f32⟩
  | 111 => ⟨S16x512x512, .f32⟩
  | 112 => ⟨S16x512x512, .f32⟩
  | 113 => ⟨S1x1x1x1, .f32⟩
  | 114 => ⟨S_, .f32⟩
  | 115 => ⟨S16x512x512, .f32⟩
  | 116 => ⟨S16x512x512, .f32⟩
  | 117 => ⟨S16x512x512, .f32⟩
  | 118 => ⟨S16x512x512, .f32⟩
  | 119 => ⟨S1x1x1x1, .f32⟩
  | 120 => ⟨S_, .f32⟩
  | 121 => ⟨S16x512x512, .f32⟩
  | 122 => ⟨S16x512x512, .f32⟩
  | 123 => ⟨S16x512x512, .f32⟩
  | 124 => ⟨S16x512x512, .f32⟩
  | 125 => ⟨S1x1x1x1, .f32⟩
  | 126 => ⟨S_, .f32⟩
  | 127 => ⟨S16x512x512, .f32⟩
  | _ => ⟨S16x3x512x512, .f32⟩

abbrev hbmTy0_1 (i : Nat) : BufTy := match i % 128 with
  | 0 => ⟨S16x512x512, .f32⟩
  | 1 => ⟨S16x512x512, .f32⟩
  | 2 => ⟨S1, .f32⟩
  | 3 => ⟨S_, .f32⟩
  | 4 => ⟨S16x512x512, .f32⟩
  | 5 => ⟨S16x512x512, .f32⟩
  | 6 => ⟨S16x512x512, .f32⟩
  | 7 => ⟨S16x512x512, .f32⟩
  | 8 => ⟨S16x512x512, .f32⟩
  | 9 => ⟨S16x512x512, .f32⟩
  | 10 => ⟨S_, .f32⟩
  | 11 => ⟨S_, .f32⟩
  | 12 => ⟨S_, .f32⟩
  | 13 => ⟨S_, .f32⟩
  | 14 => ⟨S16x512x512, .f32⟩
  | 15 => ⟨S16x512x512, .f32⟩
  | 16 => ⟨S16x512x512, .f32⟩
  | 17 => ⟨S16x512x512, .f32⟩
  | 18 => ⟨S_, .f32⟩
  | 19 => ⟨S16x512x512, .f32⟩
  | 20 => ⟨S16x512x512, .f32⟩
  | 21 => ⟨S16x512x512, .f32⟩
  | 22 => ⟨S16x512x512, .f32⟩
  | 23 => ⟨S_, .f32⟩
  | 24 => ⟨S16x512x512, .f32⟩
  | 25 => ⟨S16x512x512, .f32⟩
  | 26 => ⟨S_, .f32⟩
  | 27 => ⟨S16x512x512, .f32⟩
  | 28 => ⟨S16x512x512, .f32⟩
  | 29 => ⟨S16x512x512, .f32⟩
  | 30 => ⟨S_, .f32⟩
  | 31 => ⟨S16x512x512, .f32⟩
  | 32 => ⟨S16x512x512, .f32⟩
  | 33 => ⟨S16x512x512, .f32⟩
  | 34 => ⟨S_, .f32⟩
  | 35 => ⟨S16x512x512, .f32⟩
  | 36 => ⟨S16x512x512, .f32⟩
  | 37 => ⟨S16x512x512, .f32⟩
  | 38 => ⟨S_, .f32⟩
  | 39 => ⟨S16x512x512, .f32⟩
  | 40 => ⟨S16x512x512, .f32⟩
  | 41 => ⟨S16x512x512, .f32⟩
  | 42 => ⟨S16x512x512, .i1⟩
  | 43 => ⟨S_, .f32⟩
  | 44 => ⟨S_, .f32⟩
  | 45 => ⟨S16x512x512, .f32⟩
  | 46 => ⟨S16x512x512, .f32⟩
  | 47 => ⟨S16x512x512, .f32⟩
  | 48 => ⟨S_, .f32⟩
  | 49 => ⟨S16x512x512, .f32⟩
  | 50 => ⟨S16x512x512, .i1⟩
  | 51 => ⟨S16x512x512, .f32⟩
  | 52 => ⟨S16x512x512, .f32⟩
  | 53 => ⟨S16x512x512, .f32⟩
  | 54 => ⟨S_, .f32⟩
  | 55 => ⟨S16x512x512, .f32⟩
  | 56 => ⟨S16x512x512, .i1⟩
  | 57 => ⟨S16x512x512, .f32⟩
  | 58 => ⟨S16x512x512, .f32⟩
  | 59 => ⟨S16x512x512, .f32⟩
  | 60 => ⟨S16x512x512, .f32⟩
  | 61 => ⟨S_, .f32⟩
  | 62 => ⟨S16x512x512, .f32⟩
  | 63 => ⟨S16x512x512, .f32⟩
  | 64 => ⟨S_, .f32⟩
  | 65 => ⟨S16x512x512, .f32⟩
  | 66 => ⟨S16x512x512, .i1⟩
  | 67 => ⟨S_, .f32⟩
  | 68 => ⟨S16x512x512, .f32⟩
  | 69 => ⟨S16x512x512, .f32⟩
  | 70 => ⟨S16x512x512, .f32⟩
  | 71 => ⟨S16x512x512, .f32⟩
  | 72 => ⟨S16x512x512, .i32⟩
  | 73 => ⟨S16x512x512, .f32⟩
  | 74 => ⟨S16x512x512, .i32⟩
  | 75 => ⟨S16, .i32⟩
  | 76 => ⟨S16x1x1, .i32⟩
  | 77 => ⟨S512, .i32⟩
  | 78 => ⟨S1x512x1, .i32⟩
  | 79 => ⟨S512, .i32⟩
  | 80 => ⟨S1x1x512, .i32⟩
  | 81 => ⟨S_, .f32⟩
  | 82 => ⟨S16x10x512x512, .f32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S16x512x512, .i32⟩
  | 90 => ⟨S16x512x512, .i32⟩
  | 91 => ⟨S_, .i32⟩
  | 92 => ⟨S16x512x512, .i32⟩
  | 93 => ⟨S16x512x512, .i1⟩
  | 94 => ⟨S_, .i32⟩
  | 95 => ⟨S16x512x512, .i32⟩
  | 96 => ⟨S16x512x512, .i1⟩
  | 97 => ⟨S_, .i32⟩
  | 98 => ⟨S_, .i1⟩
  | 99 => ⟨S16x512x512, .i1⟩
  | 100 => ⟨S16x512x512, .i1⟩
  | 101 => ⟨S16x512x512, .i1⟩
  | 102 => ⟨S16x512x512, .i32⟩
  | 103 => ⟨S16x512x512, .i32⟩
  | 104 => ⟨S16x512x512, .i32⟩
  | 105 => ⟨S16x512x512, .f32⟩
  | 106 => ⟨S16x512x512, .f32⟩
  | 107 => ⟨S16x512x512, .f32⟩
  | 108 => ⟨S_, .i32⟩
  | 109 => ⟨S16x1x1, .i32⟩
  | 110 => ⟨S16x1x1, .i1⟩
  | 111 => ⟨S_, .i32⟩
  | 112 => ⟨S16x1x1, .i32⟩
  | 113 => ⟨S16x1x1, .i32⟩
  | 114 => ⟨S16x1x1, .i32⟩
  | 115 => ⟨S_, .i32⟩
  | 116 => ⟨S16x512x512, .i32⟩
  | 117 => ⟨S16x512x512, .i1⟩
  | 118 => ⟨S_, .i32⟩
  | 119 => ⟨S16x512x512, .i32⟩
  | 120 => ⟨S16x512x512, .i32⟩
  | 121 => ⟨S16x512x512, .i32⟩
  | 122 => ⟨S_, .i32⟩
  | 123 => ⟨S1x512x1, .i32⟩
  | 124 => ⟨S1x512x1, .i1⟩
  | 125 => ⟨S_, .i32⟩
  | 126 => ⟨S1x512x1, .i32⟩
  | 127 => ⟨S1x512x1, .i32⟩
  | _ => ⟨S16x3x512x512, .f32⟩

abbrev hbmTy0_2 (i : Nat) : BufTy := match i % 128 with
  | 0 => ⟨S1x512x1, .i32⟩
  | 1 => ⟨S_, .i32⟩
  | 2 => ⟨S1x1x512, .i32⟩
  | 3 => ⟨S1x1x512, .i1⟩
  | 4 => ⟨S_, .i32⟩
  | 5 => ⟨S1x1x512, .i32⟩
  | 6 => ⟨S1x1x512, .i32⟩
  | 7 => ⟨S1x1x512, .i32⟩
  | 8 => ⟨S16x512x512, .i32⟩
  | 9 => ⟨S16x512x512, .i32⟩
  | 10 => ⟨S16x512x512, .i32⟩
  | 11 => ⟨S16x512x512x1, .i32⟩
  | 12 => ⟨S16x512x512x1, .i32⟩
  | 13 => ⟨S16x512x512x1, .i32⟩
  | 14 => ⟨S16x512x512x1, .i32⟩
  | 15 => ⟨S16x512x512x4, .i32⟩
  | 16 => ⟨S16x10x512x512, .f32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S16x512x512, .i32⟩
  | 24 => ⟨S16x512x512, .i32⟩
  | 25 => ⟨S_, .i32⟩
  | 26 => ⟨S16x512x512, .i32⟩
  | 27 => ⟨S16x512x512, .i1⟩
  | 28 => ⟨S_, .i32⟩
  | 29 => ⟨S16x512x512, .i32⟩
  | 30 => ⟨S16x512x512, .i1⟩
  | 31 => ⟨S_, .i32⟩
  | 32 => ⟨S_, .i1⟩
  | 33 => ⟨S16x512x512, .i1⟩
  | 34 => ⟨S16x512x512, .i1⟩
  | 35 => ⟨S16x512x512, .i1⟩
  | 36 => ⟨S16x512x512, .i32⟩
  | 37 => ⟨S16x512x512, .i32⟩
  | 38 => ⟨S16x512x512, .i32⟩
  | 39 => ⟨S16x512x512, .f32⟩
  | 40 => ⟨S16x512x512, .f32⟩
  | 41 => ⟨S16x512x512, .f32⟩
  | 42 => ⟨S_, .i32⟩
  | 43 => ⟨S16x1x1, .i32⟩
  | 44 => ⟨S16x1x1, .i1⟩
  | 45 => ⟨S_, .i32⟩
  | 46 => ⟨S16x1x1, .i32⟩
  | 47 => ⟨S16x1x1, .i32⟩
  | 48 => ⟨S16x1x1, .i32⟩
  | 49 => ⟨S_, .i32⟩
  | 50 => ⟨S16x512x512, .i32⟩
  | 51 => ⟨S16x512x512, .i1⟩
  | 52 => ⟨S_, .i32⟩
  | 53 => ⟨S16x512x512, .i32⟩
  | 54 => ⟨S16x512x512, .i32⟩
  | 55 => ⟨S16x512x512, .i32⟩
  | 56 => ⟨S_, .i32⟩
  | 57 => ⟨S1x512x1, .i32⟩
  | 58 => ⟨S1x512x1, .i1⟩
  | 59 => ⟨S_, .i32⟩
  | 60 => ⟨S1x512x1, .i32⟩
  | 61 => ⟨S1x512x1, .i32⟩
  | 62 => ⟨S1x512x1, .i32⟩
  | 63 => ⟨S_, .i32⟩
  | 64 => ⟨S1x1x512, .i32⟩
  | 65 => ⟨S1x1x512, .i1⟩
  | 66 => ⟨S_, .i32⟩
  | 67 => ⟨S1x1x512, .i32⟩
  | 68 => ⟨S1x1x512, .i32⟩
  | 69 => ⟨S1x1x512, .i32⟩
  | 70 => ⟨S16x512x512, .i32⟩
  | 71 => ⟨S16x512x512, .i32⟩
  | 72 => ⟨S16x512x512, .i32⟩
  | 73 => ⟨S16x512x512x1, .i32⟩
  | 74 => ⟨S16x512x512x1, .i32⟩
  | 75 => ⟨S16x512x512x1, .i32⟩
  | 76 => ⟨S16x512x512x1, .i32⟩
  | 77 => ⟨S16x512x512x4, .i32⟩
  | 78 => ⟨S16x10x512x512, .f32⟩
  | 79 => ⟨S16x10x64x8x64x8, .f32⟩
  | 80 => ⟨S_, .f32⟩
  | 81 => ⟨S16x10x64x64, .f32⟩
  | 82 => ⟨S_, .f32⟩
  | 83 => ⟨S16x10x64x64, .f32⟩
  | 84 => ⟨S16x10x64x64, .f32⟩
  | 85 => ⟨S16x10x32x2x32x2, .f32⟩
  | 86 => ⟨S10x2x2x16x32x32, .f32⟩
  | 87 => ⟨S40x16384, .f32⟩
  | 88 => ⟨S40x16384, .f32⟩
  | 89 => ⟨S_, .f32⟩
  | 90 => ⟨S16384, .f32⟩
  | 91 => ⟨S_, .f32⟩
  | 92 => ⟨S16384, .f32⟩
  | 93 => ⟨S16384, .f32⟩
  | 94 => ⟨S16384, .f32⟩
  | 95 => ⟨S1x16384, .f32⟩
  | 96 => ⟨S40x16384, .f32⟩
  | 97 => ⟨S40x16384, .f32⟩
  | 98 => ⟨S10x2x2x16x32x32, .f32⟩
  | 99 => ⟨S16x10x32x2x32x2, .f32⟩
  | 100 => ⟨S16x10x64x64, .f32⟩
  | _ => ⟨S16x3x512x512, .f32⟩

abbrev hbmTy (i : Nat) : BufTy := match i / 128 with
  | 0 => hbmTy0_0 i
  | 1 => hbmTy0_1 i
  | 2 => hbmTy0_2 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_cst_2 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_cst_3 : Ref sig .tc := ⟨.hbm, 138, rfl⟩
abbrev main_v131 : Ref sig .tc := ⟨.hbm, 139, rfl⟩
abbrev main_cst_4 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_cst_5 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_cst_6 : Ref sig .tc := ⟨.hbm, 151, rfl⟩
abbrev main_v141 : Ref sig .tc := ⟨.hbm, 152, rfl⟩
abbrev main_v142 : Ref sig .tc := ⟨.hbm, 153, rfl⟩
abbrev main_cst_7 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_cst_8 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_cst_9 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_cst_10 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_cst_11 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_cst_12 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_cst_13 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_cst_14 : Ref sig .tc := ⟨.hbm, 189, rfl⟩
abbrev main_v171 : Ref sig .tc := ⟨.hbm, 190, rfl⟩
abbrev main_v172 : Ref sig .tc := ⟨.hbm, 191, rfl⟩
abbrev main_cst_15 : Ref sig .tc := ⟨.hbm, 192, rfl⟩
abbrev main_v173 : Ref sig .tc := ⟨.hbm, 193, rfl⟩
abbrev main_v174 : Ref sig .tc := ⟨.hbm, 194, rfl⟩
abbrev main_cst_16 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_cst_17 : Ref sig .tc := ⟨.hbm, 209, rfl⟩
abbrev main_v188 : Ref sig .tc := ⟨.hbm, 210, rfl⟩
abbrev main_c : Ref sig .tc := ⟨.hbm, 211, rfl⟩
abbrev main_call4_v0 : Ref sig .tc := ⟨.hbm, 212, rfl⟩
abbrev main_call4_c : Ref sig .tc := ⟨.hbm, 213, rfl⟩
abbrev main_call4_v1 : Ref sig .tc := ⟨.hbm, 214, rfl⟩
abbrev main_call4_c_0 : Ref sig .tc := ⟨.hbm, 215, rfl⟩
abbrev main_call4_v2 : Ref sig .tc := ⟨.hbm, 216, rfl⟩
abbrev main_call4_v3 : Ref sig .tc := ⟨.hbm, 217, rfl⟩
abbrev main_call4_v4 : Ref sig .tc := ⟨.hbm, 218, rfl⟩
abbrev main_call4_c_1 : Ref sig .tc := ⟨.hbm, 219, rfl⟩
abbrev main_call4_v5 : Ref sig .tc := ⟨.hbm, 220, rfl⟩
abbrev main_call4_v6 : Ref sig .tc := ⟨.hbm, 221, rfl⟩
abbrev main_call4_c_2 : Ref sig .tc := ⟨.hbm, 222, rfl⟩
abbrev main_call4_v7 : Ref sig .tc := ⟨.hbm, 223, rfl⟩
abbrev main_call4_v8 : Ref sig .tc := ⟨.hbm, 224, rfl⟩
abbrev main_call4_c_3 : Ref sig .tc := ⟨.hbm, 225, rfl⟩
abbrev main_call4_v9 : Ref sig .tc := ⟨.hbm, 226, rfl⟩
abbrev main_call4_v10 : Ref sig .tc := ⟨.hbm, 227, rfl⟩
abbrev main_call4_v11 : Ref sig .tc := ⟨.hbm, 228, rfl⟩
abbrev main_call4_v12 : Ref sig .tc := ⟨.hbm, 229, rfl⟩
abbrev main_call4_v13 : Ref sig .tc := ⟨.hbm, 230, rfl⟩
abbrev main_call4_v14 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_c_18 : Ref sig .tc := ⟨.hbm, 236, rfl⟩
abbrev main_v193 : Ref sig .tc := ⟨.hbm, 237, rfl⟩
abbrev main_v194 : Ref sig .tc := ⟨.hbm, 238, rfl⟩
abbrev main_c_19 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_c_20 : Ref sig .tc := ⟨.hbm, 243, rfl⟩
abbrev main_v198 : Ref sig .tc := ⟨.hbm, 244, rfl⟩
abbrev main_v199 : Ref sig .tc := ⟨.hbm, 245, rfl⟩
abbrev main_c_21 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_c_22 : Ref sig .tc := ⟨.hbm, 250, rfl⟩
abbrev main_v203 : Ref sig .tc := ⟨.hbm, 251, rfl⟩
abbrev main_v204 : Ref sig .tc := ⟨.hbm, 252, rfl⟩
abbrev main_c_23 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_c_24 : Ref sig .tc := ⟨.hbm, 257, rfl⟩
abbrev main_v208 : Ref sig .tc := ⟨.hbm, 258, rfl⟩
abbrev main_v209 : Ref sig .tc := ⟨.hbm, 259, rfl⟩
abbrev main_c_25 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_c_26 : Ref sig .tc := ⟨.hbm, 273, rfl⟩
abbrev main_call5_v0 : Ref sig .tc := ⟨.hbm, 274, rfl⟩
abbrev main_call5_c : Ref sig .tc := ⟨.hbm, 275, rfl⟩
abbrev main_call5_v1 : Ref sig .tc := ⟨.hbm, 276, rfl⟩
abbrev main_call5_c_0 : Ref sig .tc := ⟨.hbm, 277, rfl⟩
abbrev main_call5_v2 : Ref sig .tc := ⟨.hbm, 278, rfl⟩
abbrev main_call5_v3 : Ref sig .tc := ⟨.hbm, 279, rfl⟩
abbrev main_call5_v4 : Ref sig .tc := ⟨.hbm, 280, rfl⟩
abbrev main_call5_c_1 : Ref sig .tc := ⟨.hbm, 281, rfl⟩
abbrev main_call5_v5 : Ref sig .tc := ⟨.hbm, 282, rfl⟩
abbrev main_call5_v6 : Ref sig .tc := ⟨.hbm, 283, rfl⟩
abbrev main_call5_c_2 : Ref sig .tc := ⟨.hbm, 284, rfl⟩
abbrev main_call5_v7 : Ref sig .tc := ⟨.hbm, 285, rfl⟩
abbrev main_call5_v8 : Ref sig .tc := ⟨.hbm, 286, rfl⟩
abbrev main_call5_c_3 : Ref sig .tc := ⟨.hbm, 287, rfl⟩
abbrev main_call5_v9 : Ref sig .tc := ⟨.hbm, 288, rfl⟩
abbrev main_call5_v10 : Ref sig .tc := ⟨.hbm, 289, rfl⟩
abbrev main_call5_v11 : Ref sig .tc := ⟨.hbm, 290, rfl⟩
abbrev main_call5_v12 : Ref sig .tc := ⟨.hbm, 291, rfl⟩
abbrev main_call5_v13 : Ref sig .tc := ⟨.hbm, 292, rfl⟩
abbrev main_call5_v14 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_c_27 : Ref sig .tc := ⟨.hbm, 298, rfl⟩
abbrev main_v226 : Ref sig .tc := ⟨.hbm, 299, rfl⟩
abbrev main_v227 : Ref sig .tc := ⟨.hbm, 300, rfl⟩
abbrev main_c_28 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_c_29 : Ref sig .tc := ⟨.hbm, 305, rfl⟩
abbrev main_v231 : Ref sig .tc := ⟨.hbm, 306, rfl⟩
abbrev main_v232 : Ref sig .tc := ⟨.hbm, 307, rfl⟩
abbrev main_c_30 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_c_31 : Ref sig .tc := ⟨.hbm, 312, rfl⟩
abbrev main_v236 : Ref sig .tc := ⟨.hbm, 313, rfl⟩
abbrev main_v237 : Ref sig .tc := ⟨.hbm, 314, rfl⟩
abbrev main_c_32 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_c_33 : Ref sig .tc := ⟨.hbm, 319, rfl⟩
abbrev main_v241 : Ref sig .tc := ⟨.hbm, 320, rfl⟩
abbrev main_v242 : Ref sig .tc := ⟨.hbm, 321, rfl⟩
abbrev main_c_34 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_cst_35 : Ref sig .tc := ⟨.hbm, 336, rfl⟩
abbrev main_v256 : Ref sig .tc := ⟨.hbm, 337, rfl⟩
abbrev main_cst_36 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_cst_37 : Ref sig .tc := ⟨.hbm, 345, rfl⟩
abbrev main_v263 : Ref sig .tc := ⟨.hbm, 346, rfl⟩
abbrev main_cst_38 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩

abbrev nD : Nat := 1
abbrev τ : Topo := Topo.v7x

variable {F : FTy → Type} [FloatOps F]
-- ==== Proof.Image.lean ====
/-
  What the kernel body computes for one image, as one function of its three channel planes and the two biases: the
  text of `_hog_image`, stage by stage, at any float instance. The body repeats it four times per grid point.
-/
module

public import proofs.«01_k».proof.Proof.Gen.KernelIdeal.Frame

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]

/-- The pooling matrix: row `i` holds 1/8 on columns `8 i … 8 i + 7`, zero elsewhere. -/
def pooler : FVec F S64x512 .bf16 :=
  truncf .bf16 (select
    (andi (cmpi .sge (iota .tc S64x512 32 [1] iota_S64x512_d1_w32)
        (muli (broadcast S64x512 8#32) (iota .tc S64x512 32 [0] iota_S64x512_d0_w32)))
      (cmpi .slt (iota .tc S64x512 32 [1] iota_S64x512_d1_w32)
        (addi (muli (broadcast S64x512 8#32) (iota .tc S64x512 32 [0] iota_S64x512_d0_w32)) (broadcast S64x512 8#32))))
    (broadcast S64x512 (Scalar.ofBits .f32 0x3E000000#32 : F .f32))
    (broadcast S64x512 (Scalar.ofBits .f32 0x00000000#32 : F .f32))) bitsLt_bf16_f32

/-- The mean of the three channel planes. -/
def gray (x0 x1 x2 : Vec F S1x1x512x512 .f32) : FVec F S512x512 .f32 :=
  mulf (addf (addf (shapeCast S512x512 x0 shapeCasts_S1x1x512x512_S512x512)
      (shapeCast S512x512 x1 shapeCasts_S1x1x512x512_S512x512))
      (shapeCast S512x512 x2 shapeCasts_S1x1x512x512_S512x512))
    (broadcast S512x512 (Named.named κ "third" 0x3EAAAAAB#32 : F .f32))

/-- An image with its first and last row repeated once. -/
def padRows (g : FVec F S512x512 .f32) : FVec F S514x512 .f32 :=
  concatenate S514x512 0 [⟨S1x512, extractStridedSlice S1x512 ![0, 0] g slices_S512x512_o0_0_S1x512⟩, ⟨S512x512, g⟩,
    ⟨S1x512, extractStridedSlice S1x512 ![511, 0] g slices_S512x512_o511_0_S1x512⟩]
    concatenates_S1x512_S512x512_S1x512_S514x512_d0

/-- … then its first and last column; the two format changes are the kernel's rounding to the matrix unit's format. -/
def padCols (g : FVec F S514x512 .f32) : FVec F S514x514 .f32 :=
  extf .f32 (truncf .bf16 (concatenate S514x514 1 [⟨S514x1, extractStridedSlice S514x1 ![0, 0] g slices_S514x512_o0_0_S514x1⟩,
    ⟨S514x512, g⟩, ⟨S514x1, extractStridedSlice S514x1 ![0, 511] g slices_S514x512_o0_511_S514x1⟩]
    concatenates_S514x1_S514x512_S514x1_S514x514_d1) bitsLt_bf16_f32) bitsLt_bf16_f32

/-- Column sums weighted 1, 2, 1: the vertical half of the horizontal Sobel filter. -/
def smooth (p : FVec F S514x514 .f32) : FVec F S512x514 .f32 :=
  addf (addf (addf (extractStridedSlice S512x514 ![0, 0] p slices_S514x514_o0_0_S512x514)
    (extractStridedSlice S512x514 ![1, 0] p slices_S514x514_o1_0_S512x514))
    (extractStridedSlice S512x514 ![1, 0] p slices_S514x514_o1_0_S512x514))
    (extractStridedSlice S512x514 ![2, 0] p slices_S514x514_o2_0_S512x514)

/-- The row above less the row below: the vertical half of the vertical Sobel filter. -/
def drop (p : FVec F S514x514 .f32) : FVec F S512x514 .f32 :=
  subf (extractStridedSlice S512x514 ![0, 0] p slices_S514x514_o0_0_S512x514)
    (extractStridedSlice S512x514 ![2, 0] p slices_S514x514_o2_0_S512x514)

/-- The horizontal gradient. -/
def gradX (p : FVec F S514x514 .f32) (b : Elt F .f32) : FVec F S512x512 .f32 :=
  addf (subf (extractStridedSlice S512x512 ![0, 0] (smooth p) slices_S512x514_o0_0_S512x512)
    (extractStridedSlice S512x512 ![0, 2] (smooth p) slices_S512x514_o0_2_S512x512)) (broadcast S512x512 b)

/-- The vertical gradient. -/
def gradY (p : FVec F S514x514 .f32) (b : Elt F .f32) : FVec F S512x512 .f32 :=
  addf (addf (addf (addf (extractStridedSlice S512x512 ![0, 0] (drop p) slices_S512x514_o0_0_S512x512)
    (extractStridedSlice S512x512 ![0, 1] (drop p) slices_S512x514_o0_1_S512x512))
    (extractStridedSlice S512x512 ![0, 1] (drop p) slices_S512x514_o0_1_S512x512))
    (extractStridedSlice S512x512 ![0, 2] (drop p) slices_S512x514_o0_2_S512x512)) (broadcast S512x512 b)

/-- The magnitude of the gradient. -/
def magnitude (gx gy : FVec F S512x512 .f32) : FVec F S512x512 .f32 :=
  sqrt (addf (mulf gx gx) (mulf gy gy))

/-- The smaller component over the larger, in absolute value. -/
def ratio (gx gy : FVec F S512x512 .f32) : FVec F S512x512 .f32 :=
  divf (minimumf (absf gx) (absf gy)) (maximumf (maximumf (absf gx) (absf gy))
    (broadcast S512x512 (Scalar.ofBits .f32 0x0DA24260#32 : F .f32)))

/-- The arctangent of a ratio in units of bins, by the polynomial. -/
def arctanBins (a : FVec F S512x512 .f32) : FVec F S512x512 .f32 :=
  mulf a (addf (mulf (addf (mulf (addf (mulf (addf (mulf
      (broadcast S512x512 (Named.named κ "a9" 0x3D87D2E0#32 : F .f32)) (mulf a a))
      (broadcast S512x512 (Named.named κ "a7" 0xBE8ABEC7#32 : F .f32))) (mulf a a))
      (broadcast S512x512 (Named.named κ "a5" 0x3F12CAC7#32 : F .f32))) (mulf a a))
      (broadcast S512x512 (Named.named κ "a3" 0xBF86937D#32 : F .f32))) (mulf a a))
      (broadcast S512x512 (Named.named κ "a1" 0x404BB0E7#32 : F .f32)))

/-- The angle in units of bins, folded into the first octant's mirror when the vertical component is the larger. -/
def angle1 (gx gy : FVec F S512x512 .f32) : FVec F S512x512 .f32 :=
  select (cmpf .ogt (absf gy) (absf gx))
    (subf (broadcast S512x512 (Scalar.ofBits .f32 0x40A00000#32 : F .f32)) (arctanBins (ratio gx gy)))
    (arctanBins (ratio gx gy))

/-- … mirrored when the horizontal component is negative. -/
def angle2 (gx gy : FVec F S512x512 .f32) : FVec F S512x512 .f32 :=
  select (cmpf .olt gx (broadcast S512x512 (Scalar.ofBits .f32 0x00000000#32 : F .f32)))
    (subf (broadcast S512x512 (Scalar.ofBits .f32 0x41200000#32 : F .f32)) (angle1 gx gy)) (angle1 gx gy)

/-- The position of a pixel's orientation among the bins. -/
def phase (gx gy : FVec F S512x512 .f32) : FVec F S512x512 .f32 :=
  select (cmpf .olt gy (broadcast S512x512 (Scalar.ofBits .f32 0x00000000#32 : F .f32)))
    (subf (broadcast S512x512 (Scalar.ofBits .f32 0x41100000#32 : F .f32)) (angle2 gx gy)) (angle2 gx gy)

/-- The share of the lower bin. -/
def lower (mag p : FVec F S512x512 .f32) : FVec F S512x512 .bf16 :=
  truncf .bf16 (mulf mag (subf (ceil p) p)) bitsLt_bf16_f32

/-- The share of the upper bin. -/
def upper (mag p : FVec F S512x512 .f32) : FVec F S512x512 .bf16 :=
  truncf .bf16 (mulf mag (subf p (floor p))) bitsLt_bf16_f32

/-- The lower bin, as a float. -/
def bin (p : FVec F S512x512 .f32) : FVec F S512x512 .bf16 :=
  truncf .bf16 (select (cmpf .olt (floor p) (broadcast S512x512 (Scalar.ofBits .f32 0x00000000#32 : F .f32)))
    (broadcast S512x512 (Scalar.ofBits .f32 0x41100000#32 : F .f32)) (floor p)) bitsLt_bf16_f32

/-- What every pixel gives to the bin of pattern `c`, the bin below it being of pattern `d`. -/
def votes (c d : BitVec 16) (bv wf wc : FVec F S512x512 .bf16) : FVec F S512x512 .bf16 :=
  select (cmpf .oeq bv (broadcast S512x512 (Scalar.ofBits .bf16 c : F .bf16))) wf
    (select (cmpf .oeq bv (broadcast S512x512 (Scalar.ofBits .bf16 d : F .bf16))) wc
      (broadcast S512x512 (Scalar.ofBits .bf16 0x0000#16 : F .bf16)))

/-- The mean of an image over every cell of 8 by 8 pixels, by two products with the pooling matrix. -/
def pool (v : FVec F S512x512 .bf16) : FVec F S64x64 .f32 :=
  matmul dot_S64x512_S64x512_S64x64_1_1_0_0_n_n none
    (truncf .bf16 (matmul dot_S64x512_S512x512_S64x512_1_0_0_1_n_n none pooler v (constant S64x512 .f32 0x00000000#32)) bitsLt_bf16_f32)
    pooler (constant S64x64 .f32 0x00000000#32)

/-- The ten pooled bins of one image's shares. -/
def cells (bv wf wc : FVec F S512x512 .bf16) : Fin 10 → FVec F S64x64 .f32 :=
  ![pool (votes 0x0000#16 0x4110#16 bv wf wc), pool (votes 0x3F80#16 0x0000#16 bv wf wc),
    pool (votes 0x4000#16 0x3F80#16 bv wf wc), pool (votes 0x4040#16 0x4000#16 bv wf wc),
    pool (votes 0x4080#16 0x4040#16 bv wf wc), pool (votes 0x40A0#16 0x4080#16 bv wf wc),
    pool (votes 0x40C0#16 0x40A0#16 bv wf wc), pool (votes 0x40E0#16 0x40C0#16 bv wf wc),
    pool (votes 0x4100#16 0x40E0#16 bv wf wc), pool (votes 0x4110#16 0x4100#16 bv wf wc)]

/-- The sum over the bins of the squares of the cells. -/
def squares (k : Fin 10 → FVec F S64x64 .f32) : FVec F S64x64 .f32 :=
  addf (addf (addf (addf (addf (addf (addf (addf (addf (addf (broadcast S64x64 (Scalar.ofBits .f32 0x00000000#32 : F .f32))
    (mulf (k 0) (k 0))) (mulf (k 1) (k 1))) (mulf (k 2) (k 2))) (mulf (k 3) (k 3))) (mulf (k 4) (k 4))) (mulf (k 5) (k 5)))
    (mulf (k 6) (k 6))) (mulf (k 7) (k 7))) (mulf (k 8) (k 8))) (mulf (k 9) (k 9))

/-- Two, by the printed guard of a remainder's divisor. -/
def two : BitVec 32 := Scalar.select (Scalar.cmpi .eq 2#32 0#32) 1#32 2#32

/-- Whether a coordinate is even, by the printed floored remainder. -/
def even (v : IVec S64x64 32) : IVec S64x64 1 :=
  cmpi .eq (select (andi (xori (cmpi .slt (remsi v (broadcast S64x64 two)) (broadcast S64x64 0#32))
      (broadcastTo S64x64 (broadcast S64x64 (Scalar.cmpi .slt two 0#32)) broadcasts_S64x64_S64x64))
      (cmpi .ne (remsi v (broadcast S64x64 two)) (broadcast S64x64 0#32)))
    (addi (remsi v (broadcast S64x64 two)) (broadcast S64x64 two)) (remsi v (broadcast S64x64 two)))
    (broadcast S64x64 0#32)

/-- Every row added to the other row of its pair. -/
def pairRows (s : FVec F S64x64 .f32) : FVec F S64x64 .f32 :=
  addf s (select (even (iota .tc S64x64 32 [0] iota_S64x64_d0_w32))
    (concatenate S64x64 0 [⟨S63x64, extractStridedSlice S63x64 ![1, 0] s slices_S64x64_o1_0_S63x64⟩,
      ⟨S1x64, extractStridedSlice S1x64 ![0, 0] s slices_S64x64_o0_0_S1x64⟩] concatenates_S63x64_S1x64_S64x64_d0)
    (concatenate S64x64 0 [⟨S1x64, extractStridedSlice S1x64 ![63, 0] s slices_S64x64_o63_0_S1x64⟩,
      ⟨S63x64, extractStridedSlice S63x64 ![0, 0] s slices_S64x64_o0_0_S63x64⟩] concatenates_S1x64_S63x64_S64x64_d0))

/-- Every column added to the other column of its pair. -/
def pairCols (s : FVec F S64x64 .f32) : FVec F S64x64 .f32 :=
  addf s (select (even (iota .tc S64x64 32 [1] iota_S64x64_d1_w32))
    (concatenate S64x64 1 [⟨S64x63, extractStridedSlice S64x63 ![0, 1] s slices_S64x64_o0_1_S64x63⟩,
      ⟨S64x1, extractStridedSlice S64x1 ![0, 0] s slices_S64x64_o0_0_S64x1⟩] concatenates_S64x63_S64x1_S64x64_d1)
    (concatenate S64x64 1 [⟨S64x1, extractStridedSlice S64x1 ![0, 63] s slices_S64x64_o0_63_S64x1⟩,
      ⟨S64x63, extractStridedSlice S64x63 ![0, 0] s slices_S64x64_o0_0_S64x63⟩] concatenates_S64x1_S64x63_S64x64_d1))

/-- The reciprocal of a block's norm. -/
def invNorm (s : FVec F S64x64 .f32) : FVec F S64x64 .f32 :=
  divf (broadcast S64x64 (Scalar.ofBits .f32 0x3F800000#32 : F .f32))
    (sqrt (addf s (broadcast S64x64 (Scalar.ofBits .f32 0x2EDBE6FF#32 : F .f32))))

/-- Ten planes stacked. -/
def stack (k : Fin 10 → FVec F S64x64 .f32) : FVec F S1x10x64x64 .f32 :=
  shapeCast S1x10x64x64 (concatenate S10x64x64 0
    [⟨S1x64x64, shapeCast S1x64x64 (k 0) shapeCasts_S64x64_S1x64x64⟩, ⟨S1x64x64, shapeCast S1x64x64 (k 1) shapeCasts_S64x64_S1x64x64⟩,
     ⟨S1x64x64, shapeCast S1x64x64 (k 2) shapeCasts_S64x64_S1x64x64⟩, ⟨S1x64x64, shapeCast S1x64x64 (k 3) shapeCasts_S64x64_S1x64x64⟩,
     ⟨S1x64x64, shapeCast S1x64x64 (k 4) shapeCasts_S64x64_S1x64x64⟩, ⟨S1x64x64, shapeCast S1x64x64 (k 5) shapeCasts_S64x64_S1x64x64⟩,
     ⟨S1x64x64, shapeCast S1x64x64 (k 6) shapeCasts_S64x64_S1x64x64⟩, ⟨S1x64x64, shapeCast S1x64x64 (k 7) shapeCasts_S64x64_S1x64x64⟩,
     ⟨S1x64x64, shapeCast S1x64x64 (k 8) shapeCasts_S64x64_S1x64x64⟩, ⟨S1x64x64, shapeCast S1x64x64 (k 9) shapeCasts_S64x64_S1x64x64⟩]
    concatenates_S1x64x64_S1x64x64_S1x64x64_S1x64x64_S1x64x64_S1x64x64_S1x64x64_S1x64x64_S1x64x64_S1x64x64_S10x64x64_d0)
    shapeCasts_S10x64x64_S1x10x64x64

/-- The ten cells of an image from its gradients. -/
def histogram (gx gy : FVec F S512x512 .f32) : Fin 10 → FVec F S64x64 .f32 :=
  cells (bin (phase gx gy)) (lower (magnitude gx gy) (phase gx gy)) (upper (magnitude gx gy) (phase gx gy))

/-- The cells scaled by the reciprocal norm of their block. -/
def normalised (k : Fin 10 → FVec F S64x64 .f32) : FVec F S1x10x64x64 .f32 :=
  stack fun c => mulf (k c) (invNorm (pairCols (pairRows (squares k))))

/-- One image's result. -/
def image (x0 x1 x2 : Vec F S1x1x512x512 .f32) (b0 b1 : Elt F .f32) : FVec F S1x10x64x64 .f32 :=
  normalised (histogram (gradX (padCols (padRows (gray x0 x1 x2))) b0) (gradY (padCols (padRows (gray x0 x1 x2))) b1))

end Cert.KernelIdeal.Hog

end
-- ==== Proof.Consts.lean ====
/-
  The extended reals the programs' literal patterns denote, and the values of the kernel's named constants.
-/
module

public import proofs.«01_k».proof.Proof.Image
public import Idealize.ShloMosaic.Lib.Pipeline.ValueKit

@[expose] public section

noncomputable section

namespace Cert.Hog

open Idealize.ShloMosaic

/-- The guard of the ratio's denominator. -/
def tiny : ℝ := 10633824 / 2 ^ 123
/-- The guard of a block's norm. -/
def eps : ℝ := 14411519 / 2 ^ 57
/-- The polynomial's coefficient of degree one. -/
def c1 : ℝ := 16774968 / 2 ^ 24
/-- The polynomial's coefficient of degree three. -/
def c3 : ℝ := -(11083012 / 2 ^ 25)
/-- The polynomial's coefficient of degree five. -/
def c5 : ℝ := 12089058 / 2 ^ 26
/-- The polynomial's coefficient of degree seven. -/
def c7 : ℝ := -(11426358 / 2 ^ 27)
/-- The polynomial's coefficient of degree nine. -/
def c9 : ℝ := 11185759 / 2 ^ 29

/-- The ratio's guard as a literal. -/
theorem lit_tiny : Ideal.ofBits .f32 0x0DA24260#32 = (tiny : EReal) := by
  unfold tiny; simp [Ideal.ofBits, Ideal.ieee, -EReal.coe_mul]; norm_num
/-- The norm's guard as a literal. -/
theorem lit_eps : Ideal.ofBits .f32 0x2EDBE6FF#32 = (eps : EReal) := by
  unfold eps; simp [Ideal.ofBits, Ideal.ieee, -EReal.coe_mul]; norm_num
/-- The coefficient of degree one as a literal. -/
theorem lit_c1 : Ideal.ofBits .f32 0x3F7FF738#32 = (c1 : EReal) := by
  unfold c1; simp [Ideal.ofBits, Ideal.ieee, -EReal.coe_mul]; norm_num
/-- The coefficient of degree three as a literal. -/
theorem lit_c3 : Ideal.ofBits .f32 0xBEA91D04#32 = (c3 : EReal) := by
  unfold c3; simp [Ideal.ofBits, Ideal.ieee, -EReal.coe_mul]; norm_num
/-- The coefficient of degree five as a literal. -/
theorem lit_c5 : Ideal.ofBits .f32 0x3E3876E2#32 = (c5 : EReal) := by
  unfold c5; simp [Ideal.ofBits, Ideal.ieee, -EReal.coe_mul]; norm_num
/-- The coefficient of degree seven as a literal. -/
theorem lit_c7 : Ideal.ofBits .f32 0xBDAE5A36#32 = (c7 : EReal) := by
  unfold c7; simp [Ideal.ofBits, Ideal.ieee, -EReal.coe_mul]; norm_num
/-- The coefficient of degree nine as a literal. -/
theorem lit_c9 : Ideal.ofBits .f32 0x3CAAAE5F#32 = (c9 : EReal) := by
  unfold c9; simp [Ideal.ofBits, Ideal.ieee, -EReal.coe_mul]; norm_num
/-- The literal 2. -/
theorem lit_2 : Ideal.ofBits .f32 0x40000000#32 = ((2 : ℝ) : EReal) := by
  simp [Ideal.ofBits, Ideal.ieee, -EReal.coe_mul]; norm_num
/-- The literal 3. -/
theorem lit_3 : Ideal.ofBits .f32 0x40400000#32 = ((3 : ℝ) : EReal) := by
  simp [Ideal.ofBits, Ideal.ieee, -EReal.coe_mul]; norm_num
/-- The literal 5. -/
theorem lit_5 : Ideal.ofBits .f32 0x40A00000#32 = ((5 : ℝ) : EReal) := by
  simp [Ideal.ofBits, Ideal.ieee, -EReal.coe_mul]; norm_num
/-- The literal 9. -/
theorem lit_9 : Ideal.ofBits .f32 0x41100000#32 = ((9 : ℝ) : EReal) := by
  simp [Ideal.ofBits, Ideal.ieee, -EReal.coe_mul]; norm_num
/-- The literal 10. -/
theorem lit_10 : Ideal.ofBits .f32 0x41200000#32 = ((10 : ℝ) : EReal) := by
  simp [Ideal.ofBits, Ideal.ieee, -EReal.coe_mul]; norm_num
/-- The literal 64. -/
theorem lit_64 : Ideal.ofBits .f32 0x42800000#32 = ((64 : ℝ) : EReal) := by
  simp [Ideal.ofBits, Ideal.ieee, -EReal.coe_mul]; norm_num
/-- The literal 1/8. -/
theorem lit_eighth : Ideal.ofBits .f32 0x3E000000#32 = ((1 / 8 : ℝ) : EReal) := by
  simp [Ideal.ofBits, Ideal.ieee, -EReal.coe_mul]; norm_num

/-- The numbers the bins' bf16 patterns denote, in order. -/
theorem bin_2 : Ideal.ofBits .bf16 0x4000#16 = ((2 : ℝ) : EReal) := by
  simp [Ideal.ofBits, Ideal.ieee, -EReal.coe_mul]; norm_num
/-- The number of bin 3. -/
theorem bin_3 : Ideal.ofBits .bf16 0x4040#16 = ((3 : ℝ) : EReal) := by
  simp [Ideal.ofBits, Ideal.ieee, -EReal.coe_mul]; norm_num
/-- The number of bin 4. -/
theorem bin_4 : Ideal.ofBits .bf16 0x4080#16 = ((4 : ℝ) : EReal) := by
  simp [Ideal.ofBits, Ideal.ieee, -EReal.coe_mul]; norm_num
/-- The number of bin 5. -/
theorem bin_5 : Ideal.ofBits .bf16 0x40A0#16 = ((5 : ℝ) : EReal) := by
  simp [Ideal.ofBits, Ideal.ieee, -EReal.coe_mul]; norm_num
/-- The number of bin 6. -/
theorem bin_6 : Ideal.ofBits .bf16 0x40C0#16 = ((6 : ℝ) : EReal) := by
  simp [Ideal.ofBits, Ideal.ieee, -EReal.coe_mul]; norm_num
/-- The number of bin 7. -/
theorem bin_7 : Ideal.ofBits .bf16 0x40E0#16 = ((7 : ℝ) : EReal) := by
  simp [Ideal.ofBits, Ideal.ieee, -EReal.coe_mul]; norm_num
/-- The number of bin 8. -/
theorem bin_8 : Ideal.ofBits .bf16 0x4100#16 = ((8 : ℝ) : EReal) := by
  simp [Ideal.ofBits, Ideal.ieee, -EReal.coe_mul]; norm_num
/-- The number of bin 9. -/
theorem bin_9 : Ideal.ofBits .bf16 0x4110#16 = ((9 : ℝ) : EReal) := by
  simp [Ideal.ofBits, Ideal.ieee, -EReal.coe_mul]; norm_num

/-- The named third is 1/3. -/
theorem named_third : (Named.named Cert.KernelIdeal.κ "third" 0x3EAAAAAB#32 : Ideal .f32) = ((1 / 3 : ℝ) : EReal) :=
  IdealRules.named_const.ideal_named_scalar _ _ _ _ rfl
/-- The named coefficient of degree 1 is the literal one times 10/π. -/
theorem named_a1 : (Named.named Cert.KernelIdeal.κ "a1" 0x404BB0E7#32 : Ideal .f32) = ((c1 * (10 * Real.pi⁻¹) : ℝ) : EReal) := by
  rw [IdealRules.named_const.ideal_named_scalar _ _ _ _ rfl]; unfold c1; norm_num
/-- The named coefficient of degree 3 is the literal one times 10/π. -/
theorem named_a3 : (Named.named Cert.KernelIdeal.κ "a3" 0xBF86937D#32 : Ideal .f32) = ((c3 * (10 * Real.pi⁻¹) : ℝ) : EReal) := by
  rw [IdealRules.named_const.ideal_named_scalar _ _ _ _ rfl]; unfold c3; norm_num
/-- The named coefficient of degree 5 is the literal one times 10/π. -/
theorem named_a5 : (Named.named Cert.KernelIdeal.κ "a5" 0x3F12CAC7#32 : Ideal .f32) = ((c5 * (10 * Real.pi⁻¹) : ℝ) : EReal) := by
  rw [IdealRules.named_const.ideal_named_scalar _ _ _ _ rfl]; unfold c5; norm_num
/-- The named coefficient of degree 7 is the literal one times 10/π. -/
theorem named_a7 : (Named.named Cert.KernelIdeal.κ "a7" 0xBE8ABEC7#32 : Ideal .f32) = ((c7 * (10 * Real.pi⁻¹) : ℝ) : EReal) := by
  rw [IdealRules.named_const.ideal_named_scalar _ _ _ _ rfl]; unfold c7; norm_num
/-- The named coefficient of degree 9 is the literal one times 10/π. -/
theorem named_a9 : (Named.named Cert.KernelIdeal.κ "a9" 0x3D87D2E0#32 : Ideal .f32) = ((c9 * (10 * Real.pi⁻¹) : ℝ) : EReal) := by
  rw [IdealRules.named_const.ideal_named_scalar _ _ _ _ rfl]; unfold c9; norm_num

end Cert.Hog

end
-- ==== Proof.Pixel.lean ====
/-
  One pixel: the kernel's arithmetic on a pair of gradient components, the reference's, and the theorem that both give
  every bin the same real share. The kernel keeps the angle in bins (its polynomial's coefficients carry the factor
  10/π); the reference keeps it in radians and divides by π at the end.
-/
module

public import proofs.«01_k».proof.Proof.Consts

@[expose] public section

noncomputable section

namespace Cert.Hog

open Idealize.ShloMosaic

/-! ### What the two programs compute -/

/-- The absolute value as both programs take it. -/
def size (x : EReal) : EReal := max x (-x)

/-- The ratio of the smaller component to the larger, guarded. -/
def ratioE (x y : EReal) : EReal := Ideal.div (min (size x) (size y)) (max (max (size x) (size y)) (tiny : EReal))

/-- The gradient's magnitude. -/
def magE (x y : EReal) : EReal := Ideal.sqrt (x * x + y * y)

/-- The kernel's polynomial, in bins. -/
def polyK (a : EReal) : EReal :=
  a * ((((((c9 * (10 * Real.pi⁻¹) : ℝ) : EReal) * (a * a) + ((c7 * (10 * Real.pi⁻¹) : ℝ) : EReal)) * (a * a) +
    ((c5 * (10 * Real.pi⁻¹) : ℝ) : EReal)) * (a * a) + ((c3 * (10 * Real.pi⁻¹) : ℝ) : EReal)) * (a * a) +
    ((c1 * (10 * Real.pi⁻¹) : ℝ) : EReal))

/-- The kernel's angle in the first quadrant. -/
def firstK (x y : EReal) : EReal :=
  if size x < size y then ((5 : ℝ) : EReal) - polyK (ratioE x y) else polyK (ratioE x y)

/-- The kernel's angle in the upper half plane. -/
def upperK (x y : EReal) : EReal := if x < 0 then ((10 : ℝ) : EReal) - firstK x y else firstK x y

/-- The kernel's position among the bins. -/
def phaseK (x y : EReal) : EReal := if y < 0 then ((9 : ℝ) : EReal) - upperK x y else upperK x y

/-- The kernel's lower bin. -/
def binK (p : EReal) : EReal :=
  if Ideal.liftRound Int.floor p < 0 then ((9 : ℝ) : EReal) else Ideal.liftRound Int.floor p

/-- The bin before a bin, round the circle. -/
def prev (c : Fin 10) : Fin 10 := c - 1

/-- The kernel's share of a pixel in a bin. -/
def voteK (x y : EReal) (c : Fin 10) : EReal :=
  if binK (phaseK x y) = ((c.val : ℝ) : EReal) then magE x y * (Ideal.liftRound Int.ceil (phaseK x y) - phaseK x y)
  else if binK (phaseK x y) = (((prev c).val : ℝ) : EReal) then magE x y * (phaseK x y - Ideal.liftRound Int.floor (phaseK x y))
  else 0

/-- The reference's polynomial, in radians. -/
def polyR (a : EReal) : EReal :=
  a * (c1 + a * a * (c3 + a * a * (c5 + a * a * (c7 + a * a * (c9 : EReal)))))

/-- The reference's angle in the first quadrant. -/
def firstR (x y : EReal) : EReal :=
  if size x < size y then Ideal.div (Real.pi : EReal) ((2 : ℝ) : EReal) - polyR (ratioE x y) else polyR (ratioE x y)

/-- The reference's angle in the upper half plane. -/
def upperR (x y : EReal) : EReal := if x < 0 then (Real.pi : EReal) - firstR x y else firstR x y

/-- The reference's angle in bins, before the negative ones are moved. -/
def turnR (x y : EReal) : EReal :=
  Ideal.div (if y < 0 then -upperR x y else upperR x y) (Real.pi : EReal) * ((10 : ℝ) : EReal)

/-- The reference's position among the bins. -/
def phaseR (x y : EReal) : EReal := if turnR x y < 0 then turnR x y + ((9 : ℝ) : EReal) else turnR x y

/-- The reference's share of a pixel in a bin: the lower bin's, which is written last, else the upper bin's. -/
def voteR (x y : EReal) (c : Fin 10) : EReal :=
  if ⌊(phaseR x y).toReal⌋ % 10 = (c.val : ℤ) then magE x y * (Ideal.liftRound Int.ceil (phaseR x y) - phaseR x y)
  else if ⌈(phaseR x y).toReal⌉ % 10 = (c.val : ℤ) then magE x y * (phaseR x y - Ideal.liftRound Int.floor (phaseR x y))
  else 0

/-! ### The same over the reals -/

/-- The guarded ratio of two reals. -/
def ratio (x y : ℝ) : ℝ := min |x| |y| / max (max |x| |y|) tiny

/-- The polynomial on a real. -/
def poly (a : ℝ) : ℝ := a * (c1 + a * a * (c3 + a * a * (c5 + a * a * (c7 + a * a * c9))))

/-- The angle in the first quadrant, in radians. -/
def first (x y : ℝ) : ℝ := if |x| < |y| then Real.pi / 2 - poly (ratio x y) else poly (ratio x y)

/-- The angle in the upper half plane, in radians. -/
def upper (x y : ℝ) : ℝ := if x < 0 then Real.pi - first x y else first x y

/-- The position among the bins. -/
def pos (x y : ℝ) : ℝ := if y < 0 then 9 - upper x y * (10 * Real.pi⁻¹) else upper x y * (10 * Real.pi⁻¹)

/-- The guard is positive. -/
theorem tiny_pos : 0 < tiny := by unfold tiny; positivity

/-- The ratio is not negative. -/
theorem ratio_nonneg (x y : ℝ) : 0 ≤ ratio x y :=
  div_nonneg (le_min (abs_nonneg _) (abs_nonneg _)) (le_max_of_le_right tiny_pos.le)

/-- The ratio is at most one. -/
theorem ratio_le_one (x y : ℝ) : ratio x y ≤ 1 := by
  unfold ratio
  rw [div_le_one (lt_max_of_lt_right tiny_pos)]
  exact (min_le_left _ _).trans ((le_max_left _ _).trans (le_max_left _ _))

/-- The ratio is positive off the axes. -/
theorem ratio_pos {x y : ℝ} (hx : x ≠ 0) (hy : y ≠ 0) : 0 < ratio x y :=
  div_pos (lt_min (abs_pos.mpr hx) (abs_pos.mpr hy)) (lt_max_of_lt_right tiny_pos)

/-- On the unit interval the polynomial is at least half its argument. -/
theorem poly_ge {a : ℝ} (h0 : 0 ≤ a) (h1 : a ≤ 1) : a / 2 ≤ poly a := by
  have hs0 : 0 ≤ a * a := mul_nonneg h0 h0
  have hs1 : a * a ≤ 1 := mul_le_one₀ h1 h0 h1
  unfold poly
  generalize a * a = s at hs0 hs1
  have h4 : 0 ≤ c5 + s * (c7 + s * c9) := by
    unfold c5 c7 c9; nlinarith [mul_nonneg hs0 hs0]
  have h2 : 1 / 2 ≤ c1 + s * (c3 + s * (c5 + s * (c7 + s * c9))) := by
    have : 0 ≤ s * (s * (c5 + s * (c7 + s * c9))) := mul_nonneg hs0 (mul_nonneg hs0 h4)
    have h3 : (1 : ℝ) / 2 ≤ c1 + s * c3 := by unfold c1 c3; nlinarith
    nlinarith
  nlinarith

/-- … and less than a quarter turn. -/
theorem poly_lt {a : ℝ} (h0 : 0 ≤ a) (h1 : a ≤ 1) : poly a < Real.pi / 2 := by
  have hs0 : 0 ≤ a * a := mul_nonneg h0 h0
  have hs1 : a * a ≤ 1 := mul_le_one₀ h1 h0 h1
  have hpi := Real.two_le_pi
  unfold poly
  generalize a * a = s at hs0 hs1
  have e9 : s * c9 ≤ 1 / 40 := by unfold c9; nlinarith
  have e7 : s * (c7 + s * c9) ≤ 0 := by
    have : c7 + s * c9 ≤ 0 := by unfold c7; linarith
    nlinarith
  have e5 : s * (c5 + s * (c7 + s * c9)) ≤ 1 / 5 := by
    have : c5 + s * (c7 + s * c9) ≤ 1 / 5 := by unfold c5; linarith
    have h5 : 0 ≤ (1 : ℝ) / 5 := by norm_num
    nlinarith
  have e3 : s * (c3 + s * (c5 + s * (c7 + s * c9))) ≤ 0 := by
    have : c3 + s * (c5 + s * (c7 + s * c9)) ≤ 0 := by unfold c3; linarith
    nlinarith
  have e1 : c1 + s * (c3 + s * (c5 + s * (c7 + s * c9))) ≤ 9999 / 10000 := by
    have : c1 ≤ 9999 / 10000 := by unfold c1; norm_num
    linarith
  nlinarith

/-- The polynomial is not negative on [0, 1]. -/
theorem poly_nonneg {a : ℝ} (h0 : 0 ≤ a) (h1 : a ≤ 1) : 0 ≤ poly a := le_trans (by linarith) (poly_ge h0 h1)

/-- The angle in the first quadrant is not negative. -/
theorem first_nonneg (x y : ℝ) : 0 ≤ first x y := by
  unfold first
  have := poly_lt (ratio_nonneg x y) (ratio_le_one x y)
  have := poly_nonneg (ratio_nonneg x y) (ratio_le_one x y)
  split_ifs <;> linarith

/-- The angle in the first quadrant is at most π/2. -/
theorem first_le (x y : ℝ) : first x y ≤ Real.pi / 2 := by
  unfold first
  have := poly_lt (ratio_nonneg x y) (ratio_le_one x y)
  have := poly_nonneg (ratio_nonneg x y) (ratio_le_one x y)
  split_ifs <;> linarith

/-- Off the horizontal axis the angle in the first quadrant is positive. -/
theorem first_pos (x : ℝ) {y : ℝ} (hy : y ≠ 0) : 0 < first x y := by
  unfold first
  split_ifs with h
  · have := poly_lt (ratio_nonneg x y) (ratio_le_one x y)
    linarith
  · have hx : x ≠ 0 := by
      rintro rfl
      exact h (by simpa using abs_pos.mpr hy)
    have := poly_ge (ratio_nonneg x y) (ratio_le_one x y)
    have := ratio_pos hx hy
    linarith

/-- The angle in the upper half plane is not negative. -/
theorem upper_nonneg (x y : ℝ) : 0 ≤ upper x y := by
  unfold upper
  have := first_nonneg x y
  have := first_le x y
  have := Real.pi_pos
  split_ifs <;> linarith

/-- The angle in the upper half plane is at most π. -/
theorem upper_le (x y : ℝ) : upper x y ≤ Real.pi := by
  unfold upper
  have := first_nonneg x y
  have := first_le x y
  have := Real.pi_pos
  split_ifs <;> linarith

/-- The angle in the upper half plane is positive off the horizontal axis. -/
theorem upper_pos (x : ℝ) {y : ℝ} (hy : y ≠ 0) : 0 < upper x y := by
  unfold upper
  have := first_pos x hy
  have := first_le x y
  have := Real.pi_pos
  split_ifs <;> linarith

/-- An angle of [0, π] in bins is in [0, 10]. -/
theorem scale_bounds {t : ℝ} (h0 : 0 ≤ t) (h1 : t ≤ Real.pi) : 0 ≤ t * (10 * Real.pi⁻¹) ∧ t * (10 * Real.pi⁻¹) ≤ 10 := by
  have hp := Real.pi_pos
  refine ⟨by positivity, ?_⟩
  calc t * (10 * Real.pi⁻¹) ≤ Real.pi * (10 * Real.pi⁻¹) := by gcongr
    _ = 10 := by field_simp

/-- The phase in bins is in [-1, 10]. -/
theorem pos_bounds (x y : ℝ) : -1 ≤ pos x y ∧ pos x y ≤ 10 := by
  have h := scale_bounds (upper_nonneg x y) (upper_le x y)
  unfold pos
  split_ifs <;> constructor <;> linarith [h.1, h.2]

/-! ### Both programs at reals -/

/-- The absolute value of a real. -/
theorem size_coe (x : ℝ) : size (x : EReal) = ((|x| : ℝ) : EReal) := by
  unfold size
  rw [← EReal.coe_neg, ← EReal.coe_strictMono.monotone.map_max]; rfl

/-- The ratio of reals. -/
theorem ratioE_coe (x y : ℝ) : ratioE x y = (ratio x y : EReal) := by
  unfold ratioE ratio
  rw [size_coe, size_coe, ← EReal.coe_strictMono.monotone.map_min, ← EReal.coe_strictMono.monotone.map_max,
    ← EReal.coe_strictMono.monotone.map_max, Ideal.div_coe (lt_max_of_lt_right tiny_pos).ne', ← EReal.coe_mul]
  congr 1; ring

/-- The kernel's polynomial at a real: the arctangent's, in bins. -/
theorem polyK_coe (a : ℝ) : polyK a = ((poly a * (10 * Real.pi⁻¹) : ℝ) : EReal) := by
  unfold polyK poly
  norm_cast
  ring

/-- The reference's polynomial at a real. -/
theorem polyR_coe (a : ℝ) : polyR a = (poly a : EReal) := by
  unfold polyR poly
  norm_cast

/-- The kernel's first-quadrant angle at reals, in bins. -/
theorem firstK_coe (x y : ℝ) : firstK x y = ((first x y * (10 * Real.pi⁻¹) : ℝ) : EReal) := by
  unfold firstK first
  have hp := Real.pi_pos.ne'
  simp only [size_coe, ratioE_coe, polyK_coe, EReal.coe_lt_coe_iff]
  split_ifs
  · rw [← EReal.coe_sub]; congr 1; field_simp; ring
  · rfl

/-- The reference's first-quadrant angle at reals. -/
theorem firstR_coe (x y : ℝ) : firstR x y = (first x y : EReal) := by
  unfold firstR first
  simp only [size_coe, ratioE_coe, polyR_coe, EReal.coe_lt_coe_iff]
  split_ifs
  · rw [Ideal.div_coe two_ne_zero, ← EReal.coe_mul, ← EReal.coe_sub]; congr 1; ring
  · rfl

/-- A real is negative as an extended real where it is as a real. -/
theorem coe_neg_iff (x : ℝ) : (x : EReal) < 0 ↔ x < 0 := by
  rw [← EReal.coe_zero, EReal.coe_lt_coe_iff]

/-- The kernel's upper angle at reals, in bins. -/
theorem upperK_coe (x y : ℝ) : upperK x y = ((upper x y * (10 * Real.pi⁻¹) : ℝ) : EReal) := by
  unfold upperK upper
  have hp := Real.pi_pos.ne'
  simp only [firstK_coe, coe_neg_iff]
  split_ifs
  · rw [← EReal.coe_sub]; congr 1; field_simp
  · rfl

/-- The reference's upper angle at reals. -/
theorem upperR_coe (x y : ℝ) : upperR x y = (upper x y : EReal) := by
  unfold upperR upper
  simp only [firstR_coe, coe_neg_iff]
  split_ifs
  · rw [← EReal.coe_sub]
  · rfl

/-- The kernel's phase at reals. -/
theorem phaseK_coe (x y : ℝ) : phaseK x y = (pos x y : EReal) := by
  unfold phaseK pos
  simp only [upperK_coe, coe_neg_iff]
  split_ifs
  · rw [← EReal.coe_sub]
  · rfl

/-- The reference's signed angle at reals, in bins. -/
theorem turnR_coe (x y : ℝ) : turnR x y =
    (((if y < 0 then -upper x y else upper x y) * (10 * Real.pi⁻¹) : ℝ) : EReal) := by
  unfold turnR
  simp only [upperR_coe, coe_neg_iff]
  rw [Ideal.div_coe Real.pi_pos.ne']
  split_ifs
  · rw [← EReal.coe_neg, ← EReal.coe_mul, ← EReal.coe_mul]; congr 1; ring
  · rw [← EReal.coe_mul, ← EReal.coe_mul]; congr 1; ring

/-- The reference's phase at reals: the kernel's. -/
theorem phaseR_coe (x y : ℝ) : phaseR x y = (pos x y : EReal) := by
  have hp : 0 < 10 * Real.pi⁻¹ := by have := Real.pi_pos; positivity
  unfold phaseR pos
  simp only [turnR_coe, coe_neg_iff]
  by_cases hy : y < 0
  · have hu := upper_pos x hy.ne
    have : (-upper x y) * (10 * Real.pi⁻¹) < 0 := mul_neg_of_neg_of_pos (by linarith) hp
    simp only [hy, if_true, this]
    rw [← EReal.coe_add]; congr 1; ring
  · have : ¬ upper x y * (10 * Real.pi⁻¹) < 0 := not_lt.mpr (mul_nonneg (upper_nonneg x y) hp.le)
    simp only [hy, if_false, this]

end Cert.Hog

end
-- ==== Proof.Vote.lean ====
/-
  The shares of one pixel: at real gradient components both programs give the real `vote`; at an infinite component
  both positions are whole numbers, so every share is zero in both programs.
-/
module

public import proofs.«01_k».proof.Proof.Pixel

@[expose] public section

noncomputable section

namespace Cert.Hog

open Idealize.ShloMosaic

/-- The share of a pixel with real gradient in a bin. -/
def vote (x y : ℝ) (c : Fin 10) : ℝ :=
  if ⌊pos x y⌋ % 10 = (c.val : ℤ) then Real.sqrt (x * x + y * y) * (⌈pos x y⌉ - pos x y)
  else if ⌈pos x y⌉ % 10 = (c.val : ℤ) then Real.sqrt (x * x + y * y) * (pos x y - ⌊pos x y⌋)
  else 0

/-- The magnitude of reals. -/
theorem magE_coe (x y : ℝ) : magE x y = (Real.sqrt (x * x + y * y) : EReal) := by
  unfold magE
  rw [← EReal.coe_mul, ← EReal.coe_mul, ← EReal.coe_add, Ideal.sqrt_coe, if_neg (not_lt.mpr (add_nonneg (mul_self_nonneg x) (mul_self_nonneg y)))]

/-- The floor of a real. -/
theorem floor_coe (p : ℝ) : Ideal.liftRound Int.floor (p : EReal) = (((⌊p⌋ : ℤ) : ℝ) : EReal) := rfl
/-- The ceiling of a real. -/
theorem ceil_coe (p : ℝ) : Ideal.liftRound Int.ceil (p : EReal) = (((⌈p⌉ : ℤ) : ℝ) : EReal) := rfl

/-- The reference's vote at reals. -/
theorem voteR_coe (x y : ℝ) (c : Fin 10) : voteR x y c = (vote x y c : EReal) := by
  unfold voteR vote
  rw [phaseR_coe, magE_coe, floor_coe, ceil_coe, EReal.toReal_coe]
  split_ifs
  · norm_cast
  · norm_cast
  · rfl

/-- The kernel's lower bin below ten. -/
theorem binK_coe {p : ℝ} (h0 : -1 ≤ p) (h1 : ⌊p⌋ < 10) : binK p = (((⌊p⌋ % 10 : ℤ) : ℝ) : EReal) := by
  unfold binK
  have hf : -1 ≤ ⌊p⌋ := by rw [Int.le_floor]; exact_mod_cast h0
  simp only [floor_coe, coe_neg_iff]
  by_cases h : ⌊p⌋ < 0
  · have e : ⌊p⌋ % 10 = 9 := by omega
    rw [if_pos (by exact_mod_cast h), e]; norm_num
  · rw [if_neg (by exact_mod_cast h)]
    have e : ⌊p⌋ % 10 = ⌊p⌋ := by omega
    rw [e]

/-- A whole number is a bin's where the integers are equal. -/
theorem num_inj (a : ℤ) (c : Fin 10) : (((a : ℝ) : EReal) = ((c.val : ℝ) : EReal)) ↔ a = (c.val : ℤ) := by
  rw [EReal.coe_eq_coe_iff]
  exact ⟨fun h => by exact_mod_cast h, fun h => by rw [h]; simp⟩

/-- The bin before. -/
theorem prev_val (c : Fin 10) : (prev c).val = (c.val + 9) % 10 := by
  revert c; decide

/-- The kernel's vote at reals. -/
theorem voteK_coe (x y : ℝ) (c : Fin 10) : voteK x y c = (vote x y c : EReal) := by
  obtain ⟨h0, h1⟩ := pos_bounds x y
  unfold voteK vote
  rw [phaseK_coe, magE_coe, floor_coe, ceil_coe]
  generalize pos x y = p at h0 h1
  by_cases hi : ((⌊p⌋ : ℤ) : ℝ) = p
  · have hc : ((⌈p⌉ : ℤ) : ℝ) = p := by rw [← hi, Int.ceil_intCast]
    simp only [hi, hc, sub_self, mul_zero, ite_self]
    rw [← EReal.coe_sub, sub_self, EReal.coe_zero, mul_zero]
    split_ifs <;> rfl
  · have hlt : ((⌊p⌋ : ℤ) : ℝ) < p := lt_of_le_of_ne (Int.floor_le p) hi
    have hf9 : ⌊p⌋ < 10 := by exact_mod_cast lt_of_lt_of_le hlt h1
    have hf : -1 ≤ ⌊p⌋ := by rw [Int.le_floor]; exact_mod_cast h0
    have hc : ⌈p⌉ = ⌊p⌋ + 1 := by
      rw [Int.ceil_eq_iff]
      push_cast
      exact ⟨by simpa using hlt, (Int.lt_floor_add_one p).le⟩
    rw [binK_coe h0 hf9]
    have e : (⌊p⌋ % 10 = (((c.val + 9) % 10 : ℕ) : ℤ)) ↔ ⌈p⌉ % 10 = (c.val : ℤ) := by
      have := c.isLt
      rw [hc]; omega
    by_cases hl : ⌊p⌋ % 10 = (c.val : ℤ)
    · rw [if_pos ((num_inj _ _).mpr hl), if_pos hl]
      norm_cast
    rw [if_neg (mt (num_inj _ _).mp hl), if_neg hl]
    by_cases hu : ⌈p⌉ % 10 = (c.val : ℤ)
    · rw [if_pos ((num_inj _ _).mpr (by rw [prev_val]; exact e.mpr hu)), if_pos hu]
      norm_cast
    · rw [if_neg (fun h => hu (e.mp (by rw [← prev_val]; exact (num_inj _ _).mp h))), if_neg hu]
      rfl

/-! ### Infinite components -/

/-- An extended real that is a real. -/
def IsReal (x : EReal) : Prop := x ≠ ⊤ ∧ x ≠ ⊥

/-- A real is real. -/
theorem isReal_coe (r : ℝ) : IsReal r := ⟨EReal.coe_ne_top r, EReal.coe_ne_bot r⟩

/-- What is real is some real number. -/
theorem IsReal.exists {x : EReal} (h : IsReal x) : ∃ r : ℝ, x = r := ⟨x.toReal, (EReal.coe_toReal h.1 h.2).symm⟩

/-- The absolute value of an infinity. -/
theorem size_top {x : EReal} (h : ¬ IsReal x) : size x = ⊤ := by
  unfold size IsReal at *
  rw [not_and_or, not_not, not_not] at h
  rcases h with rfl | rfl <;> simp

/-- The ratio is zero where a side is infinite. -/
theorem ratioE_inf {x y : EReal} (h : ¬ (IsReal x ∧ IsReal y)) : ratioE x y = 0 := by
  have : max (max (size x) (size y)) (tiny : EReal) = ⊤ := by
    rcases not_and_or.mp h with h | h
    · rw [size_top h]; simp
    · rw [size_top h]; simp
  unfold ratioE
  rw [this]
  unfold Ideal.div
  simp

/-- The kernel's polynomial at zero. -/
theorem polyK_zero : polyK 0 = 0 := by unfold polyK; simp
/-- The reference's polynomial at zero. -/
theorem polyR_zero : polyR 0 = 0 := by unfold polyR; simp

/-- The kernel's phase is whole where a side is infinite. -/
theorem phaseK_inf {x y : EReal} (h : ¬ (IsReal x ∧ IsReal y)) : ∃ n : ℤ, phaseK x y = ((n : ℝ) : EReal) := by
  unfold phaseK upperK firstK
  rw [ratioE_inf h, polyK_zero]
  split_ifs
  · exact ⟨4, by norm_cast⟩
  · exact ⟨-1, by norm_cast⟩
  · exact ⟨4, by norm_cast⟩
  · exact ⟨9, by norm_cast⟩
  · exact ⟨5, by norm_cast⟩
  · exact ⟨10, by norm_cast⟩
  · exact ⟨5, by norm_cast⟩
  · exact ⟨0, by norm_cast⟩

/-- The reference's signed angle is a small whole number where a side is infinite. -/
theorem turnR_inf {x y : EReal} (h : ¬ (IsReal x ∧ IsReal y)) :
    ∃ n : ℤ, -10 ≤ n ∧ n ≤ 10 ∧ turnR x y = ((n : ℝ) : EReal) := by
  have hp := Real.pi_pos.ne'
  unfold turnR upperR firstR
  rw [ratioE_inf h, polyR_zero, Ideal.div_coe two_ne_zero, Ideal.div_coe hp]
  split_ifs
  · refine ⟨-5, by norm_num, by norm_num, ?_⟩
    norm_cast; rw [Int.cast_negSucc]; push_cast; field_simp; ring
  · refine ⟨-10, by norm_num, by norm_num, ?_⟩
    norm_cast; rw [Int.cast_negSucc]; push_cast; field_simp; ring
  · refine ⟨-5, by norm_num, by norm_num, ?_⟩
    norm_cast; rw [Int.cast_negSucc]; push_cast; field_simp; ring
  · exact ⟨0, by norm_num, by norm_num, by norm_cast; simp⟩
  · refine ⟨5, by norm_num, by norm_num, ?_⟩
    norm_cast; field_simp; ring
  · refine ⟨10, by norm_num, by norm_num, ?_⟩
    norm_cast; field_simp; ring
  · refine ⟨5, by norm_num, by norm_num, ?_⟩
    norm_cast; field_simp; ring
  · exact ⟨0, by norm_num, by norm_num, by norm_cast; simp⟩

/-- The reference's phase is a small whole number where a side is infinite. -/
theorem phaseR_inf {x y : EReal} (h : ¬ (IsReal x ∧ IsReal y)) :
    ∃ n : ℤ, -1 ≤ n ∧ n ≤ 10 ∧ phaseR x y = ((n : ℝ) : EReal) := by
  obtain ⟨n, h0, h1, e⟩ := turnR_inf h
  unfold phaseR
  simp only [e, coe_neg_iff]
  split_ifs with hn
  · have : n < 0 := by exact_mod_cast hn
    exact ⟨n + 9, by omega, by omega, by push_cast; rfl⟩
  · have : ¬ n < 0 := by exact_mod_cast hn
    exact ⟨n, by omega, by omega, rfl⟩

/-- The reference's position is always a real between -1 and 10. -/
theorem phaseR_real (x y : EReal) : ∃ p : ℝ, -1 ≤ p ∧ p ≤ 10 ∧ phaseR x y = p := by
  by_cases h : IsReal x ∧ IsReal y
  · obtain ⟨r, rfl⟩ := h.1.exists
    obtain ⟨s, rfl⟩ := h.2.exists
    exact ⟨pos r s, (pos_bounds r s).1, (pos_bounds r s).2, phaseR_coe r s⟩
  · obtain ⟨n, h0, h1, e⟩ := phaseR_inf h
    exact ⟨n, by exact_mod_cast h0, by exact_mod_cast h1, e⟩

/-- A whole phase gives no vote in the kernel. -/
theorem voteK_whole {x y : EReal} {n : ℤ} (h : phaseK x y = ((n : ℝ) : EReal)) (c : Fin 10) : voteK x y c = 0 := by
  unfold voteK
  rw [h, floor_coe, ceil_coe, Int.floor_intCast, Int.ceil_intCast, ← EReal.coe_sub, sub_self, EReal.coe_zero, mul_zero]
  split_ifs <;> rfl

/-- A whole phase gives no vote in the reference. -/
theorem voteR_whole {x y : EReal} {n : ℤ} (h : phaseR x y = ((n : ℝ) : EReal)) (c : Fin 10) : voteR x y c = 0 := by
  unfold voteR
  rw [h, floor_coe, ceil_coe, Int.floor_intCast, Int.ceil_intCast, ← EReal.coe_sub, sub_self, EReal.coe_zero, mul_zero]
  split_ifs <;> rfl

/-! ### The two programs agree -/

/-- Two components that are the same, or both not real: the kernel's sums and the reference's need not meet the same
    infinity. -/
def Agree (x x' : EReal) : Prop := x = x' ∨ (¬ IsReal x ∧ ¬ IsReal x')

/-- Components that agree give every bin one real share in both programs. -/
theorem votes_agree {x x' y y' : EReal} (hx : Agree x x') (hy : Agree y y') (c : Fin 10) :
    voteK x y c = voteR x' y' c ∧ IsReal (voteK x y c) := by
  by_cases h : IsReal x ∧ IsReal y
  · obtain rfl : x = x' := hx.resolve_right fun k => k.1 h.1
    obtain rfl : y = y' := hy.resolve_right fun k => k.1 h.2
    obtain ⟨r, rfl⟩ := h.1.exists
    obtain ⟨s, rfl⟩ := h.2.exists
    rw [voteK_coe, voteR_coe]
    exact ⟨rfl, isReal_coe _⟩
  · have h' : ¬ (IsReal x' ∧ IsReal y') := by
      rintro ⟨a, b⟩
      refine h ⟨?_, ?_⟩
      · rcases hx with rfl | k
        · exact a
        · exact absurd a k.2
      · rcases hy with rfl | k
        · exact b
        · exact absurd b k.2
    obtain ⟨n, e⟩ := phaseK_inf h
    obtain ⟨n', -, -, e'⟩ := phaseR_inf h'
    rw [voteK_whole e, voteR_whole e']
    exact ⟨rfl, isReal_coe 0⟩

end Cert.Hog

end
-- ==== Proof.Gradient.lean ====
/-
  The gradient of an image, as the kernel sums it and as the reference does. Over the reals both are the Sobel sums;
  where a pixel is infinite neither sum is a real.
-/
module

public import proofs.«01_k».proof.Proof.Vote

@[expose] public section

noncomputable section

namespace Cert.Hog

open Idealize.ShloMosaic

/-- The pixel an index of the padded image repeats. -/
def clamp (i : Fin 514) : Fin 512 := ⟨min (i.val - 1) 511, by omega⟩

/-- The mean of three channels. -/
def greyAt (x : Fin 3 → Fin 512 → Fin 512 → EReal) (i j : Fin 512) : EReal :=
  (x 0 i j + x 1 i j + x 2 i j) * ((1 / 3 : ℝ) : EReal)

/-- The padded mean. -/
def padAt (x : Fin 3 → Fin 512 → Fin 512 → EReal) (i j : Fin 514) : EReal := greyAt x (clamp i) (clamp j)

/-- The padded pixel at a distance from a pixel's upper left neighbour. -/
def near (p : Fin 514 → Fin 514 → EReal) (i j : Fin 512) (a b : Fin 3) : EReal :=
  p ⟨a.val + i.val, by omega⟩ ⟨b.val + j.val, by omega⟩

/-- The kernel's horizontal gradient, from a neighbourhood. -/
def gxK (n : Fin 3 → Fin 3 → EReal) (b : EReal) : EReal :=
  n 0 0 + n 1 0 + n 1 0 + n 2 0 - (n 0 2 + n 1 2 + n 1 2 + n 2 2) + b

/-- The kernel's vertical gradient. -/
def gyK (n : Fin 3 → Fin 3 → EReal) (b : EReal) : EReal :=
  n 0 0 - n 2 0 + (n 0 1 - n 2 1) + (n 0 1 - n 2 1) + (n 0 2 - n 2 2) + b

/-- The reference's gradient with nine weights. -/
def convR (w n : Fin 3 → Fin 3 → EReal) (b : EReal) : EReal :=
  n 0 0 * w 0 0 + n 0 1 * w 0 1 + n 0 2 * w 0 2 + n 1 0 * w 1 0 + n 1 1 * w 1 1 + n 1 2 * w 1 2
    + n 2 0 * w 2 0 + n 2 1 * w 2 1 + n 2 2 * w 2 2 + b

/-- The Sobel filters. -/
def sobel : Fin 2 → Fin 3 → Fin 3 → ℝ
  | 0 => ![![1, 0, -1], ![2, 0, -2], ![1, 0, -1]]
  | 1 => ![![1, 2, 1], ![0, 0, 0], ![-1, -2, -1]]

/-- A sum is real where both its terms are. -/
theorem isReal_add {x y : EReal} : IsReal (x + y) ↔ IsReal x ∧ IsReal y := by
  unfold IsReal
  induction x <;> induction y <;> simp [← EReal.coe_add]

/-- A negative is real where its operand is. -/
theorem isReal_neg {x : EReal} : IsReal (-x) ↔ IsReal x := by
  unfold IsReal
  induction x <;> simp [← EReal.coe_neg]

/-- A difference is real where both its terms are. -/
theorem isReal_sub {x y : EReal} : IsReal (x - y) ↔ IsReal x ∧ IsReal y := by
  rw [sub_eq_add_neg, isReal_add, isReal_neg]

/-- A multiple by a nonzero real is real where its operand is. -/
theorem isReal_mul_coe {x : EReal} {r : ℝ} (hr : r ≠ 0) : IsReal (x * r) ↔ IsReal x := by
  unfold IsReal
  rcases lt_or_gt_of_ne hr with h | h
  · induction x <;> simp [EReal.top_mul_coe_of_neg h, EReal.bot_mul_coe_of_neg h, ← EReal.coe_mul]
  · induction x <;> simp [EReal.top_mul_coe_of_pos h, EReal.bot_mul_coe_of_pos h, ← EReal.coe_mul]

/-- The horizontal gradients agree. -/
theorem gx_agree (n : Fin 3 → Fin 3 → EReal) (b : EReal) :
    Agree (gxK n b) (convR (fun i j => (sobel 0 i j : EReal)) n b) := by
  unfold gxK convR
  simp only [sobel, Matrix.cons_val, EReal.coe_zero, mul_zero, add_zero]
  generalize n 0 0 = a00, n 1 0 = a10, n 2 0 = a20, n 0 2 = a02, n 1 2 = a12, n 2 2 = a22
  by_cases h : IsReal a00 ∧ IsReal a10 ∧ IsReal a20 ∧ IsReal a02 ∧ IsReal a12 ∧ IsReal a22 ∧ IsReal b
  · obtain ⟨h0, h1, h2, h3, h4, h5, h6⟩ := h
    obtain ⟨a00, rfl⟩ := h0.exists
    obtain ⟨a10, rfl⟩ := h1.exists
    obtain ⟨a20, rfl⟩ := h2.exists
    obtain ⟨a02, rfl⟩ := h3.exists
    obtain ⟨a12, rfl⟩ := h4.exists
    obtain ⟨a22, rfl⟩ := h5.exists
    obtain ⟨b, rfl⟩ := h6.exists
    left
    simp only [← EReal.coe_add, ← EReal.coe_sub, ← EReal.coe_mul]
    congr 1
    ring
  · right
    have p1 : (1 : ℝ) ≠ 0 := by norm_num
    have p2 : (2 : ℝ) ≠ 0 := by norm_num
    have p3 : (-1 : ℝ) ≠ 0 := by norm_num
    have p4 : (-2 : ℝ) ≠ 0 := by norm_num
    simp only [isReal_add, isReal_sub, isReal_mul_coe p1, isReal_mul_coe p2, isReal_mul_coe p3, isReal_mul_coe p4]
    tauto

/-- The vertical gradients agree. -/
theorem gy_agree (n : Fin 3 → Fin 3 → EReal) (b : EReal) :
    Agree (gyK n b) (convR (fun i j => (sobel 1 i j : EReal)) n b) := by
  unfold gyK convR
  simp only [sobel, Matrix.cons_val, EReal.coe_zero, mul_zero, add_zero]
  generalize n 0 0 = a00, n 0 1 = a01, n 0 2 = a02, n 2 0 = a20, n 2 1 = a21, n 2 2 = a22
  by_cases h : IsReal a00 ∧ IsReal a01 ∧ IsReal a20 ∧ IsReal a02 ∧ IsReal a21 ∧ IsReal a22 ∧ IsReal b
  · obtain ⟨h0, h1, h2, h3, h4, h5, h6⟩ := h
    obtain ⟨a00, rfl⟩ := h0.exists
    obtain ⟨a01, rfl⟩ := h1.exists
    obtain ⟨a20, rfl⟩ := h2.exists
    obtain ⟨a02, rfl⟩ := h3.exists
    obtain ⟨a21, rfl⟩ := h4.exists
    obtain ⟨a22, rfl⟩ := h5.exists
    obtain ⟨b, rfl⟩ := h6.exists
    left
    simp only [← EReal.coe_add, ← EReal.coe_sub, ← EReal.coe_mul]
    congr 1
    ring
  · right
    have p1 : (1 : ℝ) ≠ 0 := by norm_num
    have p2 : (2 : ℝ) ≠ 0 := by norm_num
    have p3 : (-1 : ℝ) ≠ 0 := by norm_num
    have p4 : (-2 : ℝ) ≠ 0 := by norm_num
    simp only [isReal_add, isReal_sub, isReal_mul_coe p1, isReal_mul_coe p2, isReal_mul_coe p3, isReal_mul_coe p4]
    tauto

/-- The share of pixel `(i, j)` in bin `c`, from the image and the two biases: the kernel's form. -/
def shareK (x : Fin 3 → Fin 512 → Fin 512 → EReal) (b : Fin 2 → EReal) (c : Fin 10) (i j : Fin 512) : EReal :=
  voteK (gxK (near (padAt x) i j) (b 0)) (gyK (near (padAt x) i j) (b 1)) c

/-- … and the reference's. -/
def shareR (x : Fin 3 → Fin 512 → Fin 512 → EReal) (b : Fin 2 → EReal) (c : Fin 10) (i j : Fin 512) : EReal :=
  voteR (convR (fun r s => (sobel 0 r s : EReal)) (near (padAt x) i j) (b 0))
    (convR (fun r s => (sobel 1 r s : EReal)) (near (padAt x) i j) (b 1)) c

/-- The shares are equal, and real. -/
theorem share_agree (x : Fin 3 → Fin 512 → Fin 512 → EReal) (b : Fin 2 → EReal) (c : Fin 10) (i j : Fin 512) :
    shareK x b c i j = shareR x b c i j ∧ IsReal (shareK x b c i j) :=
  votes_agree (gx_agree _ _) (gy_agree _ _) c

end Cert.Hog

end
-- ==== Proof.Cell.lean ====
/-
  The mathematics of the cells: the mean of a bin's shares over 8 by 8 pixels, as one sum or as two products with the
  pooling matrix; and a cell over the norm of its block, as a quotient or as a product with the reciprocal.
-/
module

public import proofs.«01_k».proof.Proof.Gradient

@[expose] public section

noncomputable section

namespace Cert.Hog

open Idealize.ShloMosaic

/-- The mean over the cell of 8 by 8 pixels. -/
def cellMean (v : Fin 512 → Fin 512 → EReal) (i j : Fin 64) : EReal :=
  Ideal.div (∑ a : Fin 8, ∑ d : Fin 8, v ⟨i.val * 8 + a.val, by omega⟩ ⟨j.val * 8 + d.val, by omega⟩) ((64 : ℝ) : EReal)

/-- The sum of the squares of the cells of the block that holds `(i, j)`. -/
def blockSum (k : Fin 10 → Fin 64 → Fin 64 → EReal) (i j : Fin 64) : EReal :=
  ∑ c, ∑ p : Fin 2, ∑ q : Fin 2, k c ⟨i.val / 2 * 2 + p.val, by omega⟩ ⟨j.val / 2 * 2 + q.val, by omega⟩
    * k c ⟨i.val / 2 * 2 + p.val, by omega⟩ ⟨j.val / 2 * 2 + q.val, by omega⟩

/-- A cell over the norm of its block. -/
def hog (k : Fin 10 → Fin 64 → Fin 64 → EReal) (c : Fin 10) (i j : Fin 64) : EReal :=
  Ideal.div (k c i j) (Ideal.sqrt (blockSum k i j + (eps : EReal)))

/-- The entry of the pooling matrix. -/
def poolAt (i : Fin 64) (r : Fin 512) : EReal := if r.val / 8 = i.val then ((1 / 8 : ℝ) : EReal) else 0

/-- The kernel's mean: two products with the pooling matrix. -/
def cellK (v : Fin 512 → Fin 512 → EReal) (i j : Fin 64) : EReal := ∑ s, (∑ r, poolAt i r * v r s) * poolAt j s

/-- A sum over the pixels of a row, by cell and by place in the cell. -/
theorem sum_pixels (f : Fin 512 → ℝ) (i : Fin 64) :
    ∑ r : Fin 512, (if r.val / 8 = i.val then f r else 0) = ∑ a : Fin 8, f ⟨i.val * 8 + a.val, by omega⟩ := by
  rw [← Finset.sum_filter]
  refine Finset.sum_nbij' (fun r => ⟨r.val % 8, by omega⟩) (fun a => ⟨i.val * 8 + a.val, by omega⟩) ?_ ?_ ?_ ?_ ?_
  · intro r _; exact Finset.mem_univ _
  · intro a _
    rw [Finset.mem_filter]
    exact ⟨Finset.mem_univ _, by dsimp only; omega⟩
  · intro r hr
    have := (Finset.mem_filter.mp hr).2
    apply Fin.ext
    dsimp only
    omega
  · intro a _
    apply Fin.ext
    dsimp only
    omega
  · intro r hr
    have := (Finset.mem_filter.mp hr).2
    congr 1
    apply Fin.ext
    dsimp only
    omega

/-- A sum of reals, taken in the extended reals, is the real sum. -/
theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The mean of real shares, by either program. -/
theorem cell_eq (v : Fin 512 → Fin 512 → ℝ) (i j : Fin 64) :
    cellK (fun r s => (v r s : EReal)) i j = cellMean (fun r s => (v r s : EReal)) i j
      ∧ cellMean (fun r s => (v r s : EReal)) i j
        = ((∑ a : Fin 8, ∑ d : Fin 8, v ⟨i.val * 8 + a.val, by omega⟩ ⟨j.val * 8 + d.val, by omega⟩) * (1 / 64) : ℝ) := by
  have h2 : cellMean (fun r s => (v r s : EReal)) i j
        = ((∑ a : Fin 8, ∑ d : Fin 8, v ⟨i.val * 8 + a.val, by omega⟩ ⟨j.val * 8 + d.val, by omega⟩) * (1 / 64) : ℝ) := by
    unfold cellMean
    rw [Ideal.div_coe (by norm_num), EReal.coe_mul, coe_sum]
    simp only [coe_sum]
  refine ⟨?_, h2⟩
  rw [h2]
  have hp : ∀ (i : Fin 64) (r : Fin 512), poolAt i r = ((if r.val / 8 = i.val then 1 / 8 else 0 : ℝ) : EReal) := by
    intro i r
    unfold poolAt
    split_ifs <;> rfl
  unfold cellK
  simp only [hp, ← EReal.coe_mul, ← coe_sum]
  congr 1
  simp only [ite_mul, mul_ite, mul_zero, zero_mul]
  rw [sum_pixels]
  simp only [sum_pixels]
  rw [Finset.sum_comm, Finset.sum_mul]
  refine Finset.sum_congr rfl fun d _ => ?_
  rw [Finset.sum_mul, Finset.sum_mul]
  refine Finset.sum_congr rfl fun a _ => ?_
  ring

/-- The norm of a block of real cells is a positive real, so the quotient is the product with the reciprocal. -/
theorem hog_eq (k : Fin 10 → Fin 64 → Fin 64 → ℝ) (c : Fin 10) (i j : Fin 64) :
    (k c i j : EReal) * Ideal.div 1 (Ideal.sqrt (blockSum (fun c i j => (k c i j : EReal)) i j + (eps : EReal)))
      = hog (fun c i j => (k c i j : EReal)) c i j := by
  unfold hog
  obtain ⟨s, hs, e⟩ : ∃ s : ℝ, 0 ≤ s ∧ blockSum (fun c i j => (k c i j : EReal)) i j = s := by
    refine ⟨∑ c, ∑ p : Fin 2, ∑ q : Fin 2, k c ⟨i.val / 2 * 2 + p.val, by omega⟩ ⟨j.val / 2 * 2 + q.val, by omega⟩
      * k c ⟨i.val / 2 * 2 + p.val, by omega⟩ ⟨j.val / 2 * 2 + q.val, by omega⟩,
      Finset.sum_nonneg fun _ _ => Finset.sum_nonneg fun _ _ => Finset.sum_nonneg fun _ _ => mul_self_nonneg _, ?_⟩
    unfold blockSum
    simp only [← EReal.coe_mul, ← coe_sum]
  have he : (0 : ℝ) < eps := by unfold eps; norm_num
  rw [e, ← EReal.coe_add, Ideal.sqrt_coe, if_neg (by linarith)]
  have hq : Real.sqrt (s + eps) ≠ 0 := (Real.sqrt_pos.mpr (by linarith)).ne'
  rw [Ideal.div_coe hq, Ideal.div_coe hq, one_mul]

/-- One image's cells, as the reference computes them. -/
def imageCell (x : Fin 3 → Fin 512 → Fin 512 → EReal) (b : Fin 2 → EReal) (c : Fin 10) (i j : Fin 64) : EReal :=
  cellMean (fun r s => shareR x b c r s) i j

/-- The result of a batch of `N` images `x` with biases `b`, image by image. -/
def batch {N : ℕ} (x : Fin N → Fin 3 → Fin 512 → Fin 512 → EReal) (b : Fin 2 → EReal) (n : Fin N) (c : Fin 10) (i j : Fin 64) :
    EReal :=
  hog (imageCell (x n) b) c i j

end Cert.Hog

end
-- ==== Proof.KPixel.lean ====
/-
  The kernel's stages at one pixel of one image.
-/
module

public import proofs.«01_k».proof.Proof.Image
public import proofs.«01_k».proof.Proof.Cell
public import Idealize.ShloMosaic.Lib.Pipeline.ValueKit

@[expose] public section

set_option maxRecDepth 16384

noncomputable section

namespace Cert.KernelIdeal.Hog

open Cert.KernelIdeal Cert.KernelIdeal.Gen Cert.Hog Idealize.ShloMosaic Idealize.ShloMosaic.TcCoe

/-- Three channel planes as one image. -/
def pixels (x0 x1 x2 : Vec Ideal S1x1x512x512 .f32) (k : Fin 3) (i j : Fin 512) : EReal :=
  (![x0, x1, x2] k : FVec Ideal S1x1x512x512 .f32) (ix4 0 0 i j)

/-- The grey image at a pixel. -/
theorem gray_apply (x0 x1 x2 : Vec Ideal S1x1x512x512 .f32) (i j : Fin 512) :
    gray x0 x1 x2 (ix2 i j) = greyAt (pixels x0 x1 x2) i j := by
  pointwise [gray]
  rw [named_third]
  rfl

/-- The rows padded by their edges. -/
theorem padRows_apply (g : FVec Ideal S512x512 .f32) (r : Fin 514) (j : Fin 512) : padRows g (ix2 r j) = g (ix2 (clamp r) j) := by
  pointwise [padRows]
  split_ifs
  all_goals
    congr 2
    apply Fin.ext
    simp only [clamp]
    omega

/-- The columns padded by their edges. -/
theorem padCols_apply (g : FVec Ideal S514x512 .f32) (r s : Fin 514) : padCols g (ix2 r s) = g (ix2 r (clamp s)) := by
  pointwise [padCols]
  split_ifs
  all_goals
    congr 2
    apply Fin.ext
    simp only [clamp]
    omega

/-- The padded image. -/
theorem padded_apply (x0 x1 x2 : Vec Ideal S1x1x512x512 .f32) (r s : Fin 514) :
    padCols (padRows (gray x0 x1 x2)) (ix2 r s) = padAt (pixels x0 x1 x2) r s := by
  rw [padCols_apply, padRows_apply, gray_apply]
  rfl

/-- The horizontal gradient at a pixel. -/
theorem gradX_apply (p : FVec Ideal S514x514 .f32) (b : EReal) (i j : Fin 512) :
    gradX p b (ix2 i j) = gxK (near (fun r s => p (ix2 r s)) i j) b := by
  pointwise [gradX, smooth]
  unfold gxK near
  simp

/-- The vertical gradient at a pixel. -/
theorem gradY_apply (p : FVec Ideal S514x514 .f32) (b : EReal) (i j : Fin 512) :
    gradY p b (ix2 i j) = gyK (near (fun r s => p (ix2 r s)) i j) b := by
  pointwise [gradY, drop]
  unfold gyK near
  simp

variable (gx gy : FVec Ideal S512x512 .f32) (i j : Fin 512)

/-- The magnitude at a pixel. -/
theorem magnitude_apply : magnitude gx gy (ix2 i j) = magE (gx (ix2 i j)) (gy (ix2 i j)) := by
  pointwise [magnitude]
  rfl

/-- The ratio of the smaller side to the larger one at a pixel. -/
theorem ratio_apply : ratio gx gy (ix2 i j) = ratioE (gx (ix2 i j)) (gy (ix2 i j)) := by
  pointwise [ratio]
  rw [lit_tiny]
  rfl

/-- The polynomial at a pixel. -/
theorem arctanBins_apply (a : FVec Ideal S512x512 .f32) : arctanBins a (ix2 i j) = polyK (a (ix2 i j)) := by
  pointwise [arctanBins]
  rw [named_a1, named_a3, named_a5, named_a7, named_a9]
  rfl

/-- The angle in the first quadrant at a pixel. -/
theorem angle1_apply : angle1 gx gy (ix2 i j) = firstK (gx (ix2 i j)) (gy (ix2 i j)) := by
  pointwise [angle1]
  rw [arctanBins_apply, ratio_apply, lit_5]
  rfl

/-- The angle in the upper half plane at a pixel. -/
theorem angle2_apply : angle2 gx gy (ix2 i j) = upperK (gx (ix2 i j)) (gy (ix2 i j)) := by
  pointwise [angle2]
  rw [angle1_apply, lit_10]
  rfl

/-- The phase in bins at a pixel. -/
theorem phase_apply : phase gx gy (ix2 i j) = phaseK (gx (ix2 i j)) (gy (ix2 i j)) := by
  pointwise [phase]
  rw [angle2_apply, lit_9]
  rfl

/-- The lower bin at a pixel. -/
theorem bin_apply (p : FVec Ideal S512x512 .f32) : bin p (ix2 i j) = binK (p (ix2 i j)) := by
  pointwise [bin]
  rw [lit_9]
  rfl

/-- The share of the lower bin at a pixel. -/
theorem lower_apply (m p : FVec Ideal S512x512 .f32) :
    lower m p (ix2 i j) = m (ix2 i j) * (Ideal.liftRound Int.ceil (p (ix2 i j)) - p (ix2 i j)) := by
  pointwise [lower]

/-- The share of the upper bin at a pixel. -/
theorem upper_apply (m p : FVec Ideal S512x512 .f32) :
    upper m p (ix2 i j) = m (ix2 i j) * (p (ix2 i j) - Ideal.liftRound Int.floor (p (ix2 i j))) := by
  pointwise [upper]

/-- The patterns of the ten bins. -/
def code : Fin 10 → BitVec 16 :=
  ![0x0000#16, 0x3F80#16, 0x4000#16, 0x4040#16, 0x4080#16, 0x40A0#16, 0x40C0#16, 0x40E0#16, 0x4100#16, 0x4110#16]

/-- The pattern that stands for a bin is its number. -/
theorem code_val (c : Fin 10) : (Ideal.ofBits .bf16 (code c) : EReal) = ((c.val : ℝ) : EReal) := by
  fin_cases c
  · simp [code]
  · simp [code]
  · simpa [code] using bin_2
  · simpa [code] using bin_3
  · simpa [code] using bin_4
  · simpa [code] using bin_5
  · simpa [code] using bin_6
  · simpa [code] using bin_7
  · simpa [code] using bin_8
  · simpa [code] using bin_9

/-- What a pixel gives to bin `c`. -/
theorem votes_apply (c : Fin 10) (bv wf wc : FVec Ideal S512x512 .bf16) : votes (code c) (code (prev c)) bv wf wc (ix2 i j)
    = if bv (ix2 i j) = ((c.val : ℝ) : EReal) then wf (ix2 i j)
      else if bv (ix2 i j) = (((prev c).val : ℝ) : EReal) then wc (ix2 i j) else 0 := by
  pointwise [votes]
  rw [code_val, code_val]

/-- A bin's cells are its pooled votes. -/
theorem cells_eq (bv wf wc : FVec Ideal S512x512 .bf16) (c : Fin 10) :
    cells bv wf wc c = pool (votes (code c) (code (prev c)) bv wf wc) := by
  fin_cases c <;> rfl

/-- The shares of every pixel, from the gradients. -/
theorem share_apply (c : Fin 10) : votes (code c) (code (prev c)) (bin (phase gx gy)) (lower (magnitude gx gy) (phase gx gy))
    (upper (magnitude gx gy) (phase gx gy)) (ix2 i j) = voteK (gx (ix2 i j)) (gy (ix2 i j)) c := by
  rw [votes_apply, bin_apply, lower_apply, upper_apply, phase_apply, magnitude_apply]
  rfl

end Cert.KernelIdeal.Hog

end
-- ==== Proof.KCells.lean ====
/-
  The kernel's cells of one image and their normalisation.
-/
module

public import proofs.«01_k».proof.Proof.KPixel
public import Idealize.ShloMosaic.Lib.WordCmp

@[expose] public section

set_option maxRecDepth 16384

noncomputable section

namespace Cert.KernelIdeal.Hog

open Cert.KernelIdeal Cert.KernelIdeal.Gen Cert.Hog Idealize.ShloMosaic Idealize.ShloMosaic.TcCoe

/-- The pooling matrix at an index. -/
theorem pooler_apply (i : Fin 64) (r : Fin 512) : (pooler : FVec Ideal S64x512 .bf16) (ix2 i r) = poolAt i r := by
  pointwise [pooler]
  rw [lit_eighth]
  have e1 : IntOp.muli 8#32 (BitVec.ofNat 32 i.val) = BitVec.ofNat 32 (8 * i.val) := by
    change 8#32 * BitVec.ofNat 32 i.val = _
    rw [BitVec.ofNat_mul]
  have e2 : IntOp.addi (BitVec.ofNat 32 (8 * i.val)) 8#32 = BitVec.ofNat 32 (8 * i.val + 8) := by
    change BitVec.ofNat 32 (8 * i.val) + 8#32 = _
    rw [BitVec.ofNat_add]
  rw [e1, e2, WordCmp.cmpi_sge_ofNat (by omega) (by omega), WordCmp.cmpi_slt_ofNat (by omega) (by omega), WordCmp.andi_ofBool,
    ← Bool.decide_and, WordCmp.select_decide]
  unfold poolAt
  by_cases h : r.val / 8 = i.val
  · rw [if_pos (by omega), if_pos h]
  · rw [if_neg (by omega), if_neg h]

/-- Pooling by two products, at a cell. -/
theorem pool_apply (v : FVec Ideal S512x512 .bf16) (i j : Fin 64) : pool v (ix2 i j) = cellK (fun r s => v (ix2 r s)) i j := by
  pointwise [pool]
  simp only [pooler_apply]
  rfl

/-- Whether a word is even, by the printed floored remainder. -/
def evenWord (w : BitVec 32) : BitVec 1 :=
  IntOp.cmpi .eq (Scalar.select (IntOp.andi (IntOp.xori (IntOp.cmpi .slt (IntOp.remsi .vector w two) 0#32) (Scalar.cmpi .slt two 0#32))
      (IntOp.cmpi .ne (IntOp.remsi .vector w two) 0#32))
    (IntOp.addi (IntOp.remsi .vector w two) two) (IntOp.remsi .vector w two)) 0#32

/-- The parity test of a small word. -/
theorem evenWord_small (i : Fin 64) : evenWord (BitVec.ofNat 32 i.val) = BitVec.ofBool (decide (i.val % 2 = 0)) := by
  revert i; decide

/-- The parity test of a row number. -/
theorem even_row (i j : Fin 64) : even (iota .tc S64x64 32 [0] iota_S64x64_d0_w32) (ix2 i j) = BitVec.ofBool (decide (i.val % 2 = 0)) := by
  rw [← evenWord_small]
  pointwise [even]
  rfl

/-- The parity test of a column number. -/
theorem even_col (i j : Fin 64) : even (iota .tc S64x64 32 [1] iota_S64x64_d1_w32) (ix2 i j) = BitVec.ofBool (decide (j.val % 2 = 0)) := by
  rw [← evenWord_small]
  pointwise [even]
  rfl

/-- The two places of a pair, by parity. -/
theorem pair_sum (f : Fin 64 → EReal) (i : Fin 64) :
    f i + (if i.val % 2 = 0 then f ⟨(i.val + 1) % 64, by omega⟩ else f ⟨(i.val + 63) % 64, by omega⟩)
      = ∑ p : Fin 2, f ⟨i.val / 2 * 2 + p.val, by omega⟩ := by
  rw [Fin.sum_univ_two]
  split_ifs with h
  · congr 2 <;> apply Fin.ext <;> simp <;> omega
  · rw [add_comm]
    congr 2 <;> apply Fin.ext <;> simp <;> omega

/-- The sum of a row and its partner. -/
theorem pairRows_apply (s : FVec Ideal S64x64 .f32) (i j : Fin 64) :
    pairRows s (ix2 i j) = ∑ p : Fin 2, s (ix2 ⟨i.val / 2 * 2 + p.val, by omega⟩ j) := by
  rw [← pair_sum (fun i => s (ix2 i j))]
  pointwise [pairRows]
  rw [even_row, WordCmp.select_decide]
  congr 1
  split_ifs <;> first | rfl | (congr 2; apply Fin.ext; dsimp only; omega) | omega

/-- The sum of a column and its partner. -/
theorem pairCols_apply (s : FVec Ideal S64x64 .f32) (i j : Fin 64) :
    pairCols s (ix2 i j) = ∑ q : Fin 2, s (ix2 i ⟨j.val / 2 * 2 + q.val, by omega⟩) := by
  rw [← pair_sum (fun j => s (ix2 i j))]
  pointwise [pairCols]
  rw [even_col, WordCmp.select_decide]
  congr 1
  split_ifs <;> first | rfl | (congr 2; apply Fin.ext; dsimp only; omega) | omega

/-- The sum of the squares of the ten cells at a place. -/
theorem squares_apply (k : Fin 10 → FVec Ideal S64x64 .f32) (i j : Fin 64) :
    squares k (ix2 i j) = ∑ c, k c (ix2 i j) * k c (ix2 i j) := by
  pointwise [squares]
  simp only [Fin.sum_univ_succ, Fin.sum_univ_zero]
  simp [add_assoc]

/-- The reciprocal of a norm. -/
theorem invNorm_apply (s : FVec Ideal S64x64 .f32) (i j : Fin 64) :
    invNorm s (ix2 i j) = Ideal.div 1 (Ideal.sqrt (s (ix2 i j) + (eps : EReal))) := by
  pointwise [invNorm]
  rw [lit_eps]

/-- The stacked result at an index. -/
theorem stack_apply (k : Fin 10 → FVec Ideal S64x64 .f32) (c : Fin 10) (i j : Fin 64) : stack k (ix4 0 c i j) = k c (ix2 i j) := by
  fin_cases c <;> pointwise [stack]

/-- The sum of the squares over a block of two by two cells. -/
theorem blocks_apply (k : Fin 10 → FVec Ideal S64x64 .f32) (i j : Fin 64) :
    pairCols (pairRows (squares k)) (ix2 i j) = blockSum (fun c i j => k c (ix2 i j)) i j := by
  rw [pairCols_apply]
  simp only [pairRows_apply, squares_apply]
  unfold blockSum
  rw [Finset.sum_comm]
  simp only [Finset.sum_comm (s := (Finset.univ : Finset (Fin 10)))]

/-- A normalised cell. -/
theorem normalised_apply (k : Fin 10 → FVec Ideal S64x64 .f32) (c : Fin 10) (i j : Fin 64) :
    normalised k (ix4 0 c i j) = k c (ix2 i j)
      * Ideal.div 1 (Ideal.sqrt (blockSum (fun c i j => k c (ix2 i j)) i j + (eps : EReal))) := by
  unfold normalised
  rw [stack_apply, ← blocks_apply, ← invNorm_apply]
  pointwise

end Cert.KernelIdeal.Hog

end
-- ==== Proof.KImage.lean ====
/-
  What the kernel computes for one image, at an index: the reference's cell of its shares, over the norm of its block.
-/
module

public import proofs.«01_k».proof.Proof.KCells

@[expose] public section

set_option maxRecDepth 16384

noncomputable section

namespace Cert.KernelIdeal.Hog

open Cert.KernelIdeal Cert.KernelIdeal.Gen Cert.Hog Idealize.ShloMosaic Idealize.ShloMosaic.TcCoe

variable (x0 x1 x2 : Vec Ideal S1x1x512x512 .f32) (b0 b1 : EReal)

/-- The kernel's cells are pooled shares. -/
theorem histogram_apply (c : Fin 10) (i j : Fin 64) :
    histogram (gradX (padCols (padRows (gray x0 x1 x2))) b0) (gradY (padCols (padRows (gray x0 x1 x2))) b1) c (ix2 i j)
      = cellK (fun r s => shareK (pixels x0 x1 x2) ![b0, b1] c r s) i j := by
  unfold histogram
  rw [cells_eq, pool_apply]
  refine congrArg (fun f => cellK f i j) (funext fun r => funext fun s => ?_)
  rw [share_apply, gradX_apply, gradY_apply]
  unfold shareK
  simp only [padded_apply]
  rfl

/-- The kernel's pooled shares are the reference's cells, and real. -/
theorem cellK_real (x : Fin 3 → Fin 512 → Fin 512 → EReal) (b : Fin 2 → EReal) (c : Fin 10) (i j : Fin 64) :
    cellK (fun r s => shareK x b c r s) i j = imageCell x b c i j ∧ ∃ t : ℝ, imageCell x b c i j = t := by
  have e : ∀ r s, shareK x b c r s = ((shareK x b c r s).toReal : EReal) := fun r s =>
    (EReal.coe_toReal (share_agree x b c r s).2.1 (share_agree x b c r s).2.2).symm
  have eK : (fun r s => shareK x b c r s) = fun r s => ((shareK x b c r s).toReal : EReal) := funext fun r => funext fun s => e r s
  have eR : (fun r s => shareR x b c r s) = fun r s => ((shareK x b c r s).toReal : EReal) :=
    funext fun r => funext fun s => (share_agree x b c r s).1.symm.trans (e r s)
  unfold imageCell
  rw [eK, eR]
  exact ⟨(cell_eq _ i j).1, _, (cell_eq _ i j).2⟩

/-- One image's result. -/
theorem image_apply (c : Fin 10) (i j : Fin 64) : image x0 x1 x2 b0 b1 (ix4 0 c i j)
    = hog (imageCell (pixels x0 x1 x2) ![b0, b1]) c i j := by
  unfold image
  rw [normalised_apply]
  choose t ht using fun c i j => (cellK_real (pixels x0 x1 x2) ![b0, b1] c i j).2
  have e : imageCell (pixels x0 x1 x2) ![b0, b1] = fun c i j => (t c i j : EReal) :=
    funext fun c => funext fun i => funext fun j => ht c i j
  have h : ∀ c i j, histogram (gradX (padCols (padRows (gray x0 x1 x2))) b0) (gradY (padCols (padRows (gray x0 x1 x2))) b1) c (ix2 i j)
      = (t c i j : EReal) := fun c i j => by
    rw [histogram_apply, (cellK_real _ _ c i j).1, ht]
  simp only [h]
  rw [hog_eq, e]

end Cert.KernelIdeal.Hog

end
-- ==== Proof.Planes.lean ====
/-
  The loads of the kernel body: the planes of a staged block and the biases.
-/
module

public import proofs.«01_k».proof.Proof.Image

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]

/-- The plane of image `n` and channel `k` of a staged block, by the rectangle the body loads. -/
def plane (x0 : Vec F S4x3x512x512 .f32) (n k : ℕ) (h : ∀ d, (![n, k, 0, 0] : Fin 4 → ℕ) d + S1x1x512x512.size d ≤ S4x3x512x512.size d) :
    Vec F S1x1x512x512 .f32 :=
  fun j => x0 ((Rect.unit (s := S4x3x512x512) ![n, k, 0, 0] S1x1x512x512.size h).toLoadRect.idx j)

/-- One of the two staged biases. -/
def bias (x1 : Vec F S2 .f32) (k : ℕ) (h : ∀ d, (![k] : Fin 1 → ℕ) d + S1.size d ≤ S2.size d) : Elt F .f32 :=
  x1 ((Rect.unit (s := S2) ![k] S1.size h).toLoadRect.idx (Shape.Idx.first (s := S1) (by decide)))

/-- The result of image 0 of a staged block. -/
def image0 (x0 : Vec F S4x3x512x512 .f32) (x1 : Vec F S2 .f32) : FVec F S1x10x64x64 .f32 :=
  image (plane x0 0 0 inb_S4x3x512x512_S1x1x512x512_0_0_0_0) (plane x0 0 1 inb_S4x3x512x512_S1x1x512x512_0_1_0_0)
    (plane x0 0 2 inb_S4x3x512x512_S1x1x512x512_0_2_0_0) (bias x1 0 inb_S2_S1_0) (bias x1 1 inb_S2_S1_1)

/-- The result of image 1 of a staged block. -/
def image1 (x0 : Vec F S4x3x512x512 .f32) (x1 : Vec F S2 .f32) : FVec F S1x10x64x64 .f32 :=
  image (plane x0 1 0 inb_S4x3x512x512_S1x1x512x512_1_0_0_0) (plane x0 1 1 inb_S4x3x512x512_S1x1x512x512_1_1_0_0)
    (plane x0 1 2 inb_S4x3x512x512_S1x1x512x512_1_2_0_0) (bias x1 0 inb_S2_S1_0) (bias x1 1 inb_S2_S1_1)

/-- The result of image 2 of a staged block. -/
def image2 (x0 : Vec F S4x3x512x512 .f32) (x1 : Vec F S2 .f32) : FVec F S1x10x64x64 .f32 :=
  image (plane x0 2 0 inb_S4x3x512x512_S1x1x512x512_2_0_0_0) (plane x0 2 1 inb_S4x3x512x512_S1x1x512x512_2_1_0_0)
    (plane x0 2 2 inb_S4x3x512x512_S1x1x512x512_2_2_0_0) (bias x1 0 inb_S2_S1_0) (bias x1 1 inb_S2_S1_1)

/-- The result of image 3 of a staged block. -/
def image3 (x0 : Vec F S4x3x512x512 .f32) (x1 : Vec F S2 .f32) : FVec F S1x10x64x64 .f32 :=
  image (plane x0 3 0 inb_S4x3x512x512_S1x1x512x512_3_0_0_0) (plane x0 3 1 inb_S4x3x512x512_S1x1x512x512_3_1_0_0)
    (plane x0 3 2 inb_S4x3x512x512_S1x1x512x512_3_2_0_0) (bias x1 0 inb_S2_S1_0) (bias x1 1 inb_S2_S1_1)

/-- The body's load of a plane. -/
theorem load_plane (arg1 : Memref sig .tc .vmem S4x3x512x512 .f32) (harg1 : arg1.IsWhole) (x0 : Vec F S4x3x512x512 .f32)
    (n k : ℕ) (h : ∀ d, (![n, k, 0, 0] : Fin 4 → ℕ) d + S1x1x512x512.size d ≤ S4x3x512x512.size d) :
    View.readAt (Elt F) arg1.view (Rect.unit (s := S4x3x512x512) ![n, k, 0, 0] S1x1x512x512.size h).toLoadRect (harg1.unread x0) =
      plane x0 n k h := by
  funext j; rw [View.readAt_apply, harg1.read_unread]; rfl

/-- The body's load of the first bias. -/
theorem load_bias0 (c : Dev nD) (arg2 : Memref sig .tc .smem S2 .f32) (harg2 : arg2.IsWhole) (x1 : Vec F S2 .f32) :
    kernelRun0_A.sl.r_3 c arg2 harg2 x1 = bias x1 0 inb_S2_S1_0 := by
  unfold kernelRun0_A.sl.r_3; rw [View.readAt_apply, harg2.read_unread]; rfl

/-- The body's load of the second bias. -/
theorem load_bias1 (c : Dev nD) (arg2 : Memref sig .tc .smem S2 .f32) (harg2 : arg2.IsWhole) (x1 : Vec F S2 .f32) :
    kernelRun0_A.sl.r_4 c arg2 harg2 x1 = bias x1 1 inb_S2_S1_1 := by
  unfold kernelRun0_A.sl.r_4; rw [View.readAt_apply, harg2.read_unread]; rfl

end Cert.KernelIdeal.Hog

end
-- ==== Proof.Stage0.lean ====
/-
  The stages of the first of the four images, as the kernel body's run names them, are those of `image`.
-/
module

public import proofs.«01_k».proof.Proof.Planes

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]
  (c : Dev nD) (arg1 : Memref sig .tc .vmem S4x3x512x512 .f32) (harg1 : arg1.IsWhole)
  (arg2 : Memref sig .tc .smem S2 .f32) (harg2 : arg2.IsWhole) (x0 : Vec F S4x3x512x512 .f32) (x1 : Vec F S2 .f32)

/-- The padded gray image. -/
theorem pad0 (y0 y1 y2 : Vec F S1x1x512x512 .f32) : k0_pay3 y0 y1 y2 = padCols (padRows (gray y0 y1 y2)) := rfl

/-- The horizontal gradient. -/
theorem gradX0 : (k0_pay9 (kernelRun0_A.sl.r c arg1 harg1 x0) (kernelRun0_A.sl.r_2 c arg1 harg1 x0) (kernelRun0_A.sl.r_3 c arg2 harg2 x1)) = gradX (padCols (padRows (gray (View.readAt (Elt F) arg1.view (Rect.unit (s := S4x3x512x512) ![0, 0, 0, 0] S1x1x512x512.size inb_S4x3x512x512_S1x1x512x512_0_0_0_0).toLoadRect (harg1.unread x0))
      (View.readAt (Elt F) arg1.view (Rect.unit (s := S4x3x512x512) ![0, 1, 0, 0] S1x1x512x512.size inb_S4x3x512x512_S1x1x512x512_0_1_0_0).toLoadRect (harg1.unread x0))
      (View.readAt (Elt F) arg1.view (Rect.unit (s := S4x3x512x512) ![0, 2, 0, 0] S1x1x512x512.size inb_S4x3x512x512_S1x1x512x512_0_2_0_0).toLoadRect (harg1.unread x0))))) (kernelRun0_A.sl.r_3 c arg2 harg2 x1) := rfl

/-- The vertical gradient. -/
theorem gradY0 : (kernelRun0_A.sl.r_5 c arg1 harg1 arg2 harg2 x0 x1) = gradY (padCols (padRows (gray (View.readAt (Elt F) arg1.view (Rect.unit (s := S4x3x512x512) ![0, 0, 0, 0] S1x1x512x512.size inb_S4x3x512x512_S1x1x512x512_0_0_0_0).toLoadRect (harg1.unread x0))
      (View.readAt (Elt F) arg1.view (Rect.unit (s := S4x3x512x512) ![0, 1, 0, 0] S1x1x512x512.size inb_S4x3x512x512_S1x1x512x512_0_1_0_0).toLoadRect (harg1.unread x0))
      (View.readAt (Elt F) arg1.view (Rect.unit (s := S4x3x512x512) ![0, 2, 0, 0] S1x1x512x512.size inb_S4x3x512x512_S1x1x512x512_0_2_0_0).toLoadRect (harg1.unread x0))))) (kernelRun0_A.sl.r_4 c arg2 harg2 x1) := rfl

/-- The magnitude. -/
theorem magnitude0 : (kernelRun0_A.sl.r_6 c arg1 harg1 arg2 harg2 x0 x1) = magnitude (k0_pay9 (kernelRun0_A.sl.r c arg1 harg1 x0) (kernelRun0_A.sl.r_2 c arg1 harg1 x0) (kernelRun0_A.sl.r_3 c arg2 harg2 x1)) (kernelRun0_A.sl.r_5 c arg1 harg1 arg2 harg2 x0 x1) := rfl

/-- The phase. -/
theorem phase0 : (kernelRun0_A.sl.v95 c arg1 harg1 arg2 harg2 x0 x1) = phase (k0_pay9 (kernelRun0_A.sl.r c arg1 harg1 x0) (kernelRun0_A.sl.r_2 c arg1 harg1 x0) (kernelRun0_A.sl.r_3 c arg2 harg2 x1)) (kernelRun0_A.sl.r_5 c arg1 harg1 arg2 harg2 x0 x1) := rfl

/-- The lower bin. -/
theorem bin0 : (kernelRun0_A.sl.v108 c arg1 harg1 arg2 harg2 x0 x1) = bin (kernelRun0_A.sl.v95 c arg1 harg1 arg2 harg2 x0 x1) := rfl

/-- The lower bin's share. -/
theorem lower0 : (kernelRun0_A.sl.v106 c arg1 harg1 arg2 harg2 x0 x1) = lower (kernelRun0_A.sl.r_6 c arg1 harg1 arg2 harg2 x0 x1) (kernelRun0_A.sl.v95 c arg1 harg1 arg2 harg2 x0 x1) := rfl

/-- The upper bin's share. -/
theorem upper0 : (kernelRun0_A.sl.v107 c arg1 harg1 arg2 harg2 x0 x1) = upper (kernelRun0_A.sl.r_6 c arg1 harg1 arg2 harg2 x0 x1) (kernelRun0_A.sl.v95 c arg1 harg1 arg2 harg2 x0 x1) := rfl

/-- The ten cells. -/
theorem cells0 : (![(kernelRun0_A.sl.v119 c arg1 harg1 arg2 harg2 x0 x1),
      (kernelRun0_A.sl.v128 c arg1 harg1 arg2 harg2 x0 x1),
      (kernelRun0_A.sl.v137 c arg1 harg1 arg2 harg2 x0 x1),
      (kernelRun0_A.sl.v146 c arg1 harg1 arg2 harg2 x0 x1),
      (kernelRun0_A.sl.v155 c arg1 harg1 arg2 harg2 x0 x1),
      (kernelRun0_A.sl.v164 c arg1 harg1 arg2 harg2 x0 x1),
      (kernelRun0_A.sl.v173 c arg1 harg1 arg2 harg2 x0 x1),
      (kernelRun0_A.sl.v182 c arg1 harg1 arg2 harg2 x0 x1),
      (kernelRun0_A.sl.v191 c arg1 harg1 arg2 harg2 x0 x1),
      (kernelRun0_A.sl.v200 c arg1 harg1 arg2 harg2 x0 x1)] : Fin 10 → FVec F S64x64 .f32) =
    cells (kernelRun0_A.sl.v108 c arg1 harg1 arg2 harg2 x0 x1) (kernelRun0_A.sl.v106 c arg1 harg1 arg2 harg2 x0 x1) (kernelRun0_A.sl.v107 c arg1 harg1 arg2 harg2 x0 x1) := rfl

/-- The sum of their squares. -/
theorem squares0 : (kernelRun0_A.sl.v202 c arg1 harg1 arg2 harg2 x0 x1) = squares ![(kernelRun0_A.sl.v119 c arg1 harg1 arg2 harg2 x0 x1),
      (kernelRun0_A.sl.v128 c arg1 harg1 arg2 harg2 x0 x1),
      (kernelRun0_A.sl.v137 c arg1 harg1 arg2 harg2 x0 x1),
      (kernelRun0_A.sl.v146 c arg1 harg1 arg2 harg2 x0 x1),
      (kernelRun0_A.sl.v155 c arg1 harg1 arg2 harg2 x0 x1),
      (kernelRun0_A.sl.v164 c arg1 harg1 arg2 harg2 x0 x1),
      (kernelRun0_A.sl.v173 c arg1 harg1 arg2 harg2 x0 x1),
      (kernelRun0_A.sl.v182 c arg1 harg1 arg2 harg2 x0 x1),
      (kernelRun0_A.sl.v191 c arg1 harg1 arg2 harg2 x0 x1),
      (kernelRun0_A.sl.v200 c arg1 harg1 arg2 harg2 x0 x1)] := rfl

/-- Its sums over pairs of rows. -/
theorem pairRows0 : (kernelRun0_A.sl.v230 c arg1 harg1 arg2 harg2 x0 x1) = pairRows (kernelRun0_A.sl.v202 c arg1 harg1 arg2 harg2 x0 x1) := rfl

/-- What is stored, from the cells. -/
theorem stored0 : (k0_pay58 (kernelRun0_A.sl.v267 c arg1 harg1 arg2 harg2 x0 x1) (kernelRun0_A.sl.v268 c arg1 harg1 arg2 harg2 x0 x1) (kernelRun0_A.sl.v269 c arg1 harg1 arg2 harg2 x0 x1) (kernelRun0_A.sl.v270 c arg1 harg1 arg2 harg2 x0 x1) (kernelRun0_A.sl.v271 c arg1 harg1 arg2 harg2 x0 x1) (kernelRun0_A.sl.v272 c arg1 harg1 arg2 harg2 x0 x1) (kernelRun0_A.sl.v273 c arg1 harg1 arg2 harg2 x0 x1) (kernelRun0_A.sl.v274 c arg1 harg1 arg2 harg2 x0 x1) (kernelRun0_A.sl.v275 c arg1 harg1 arg2 harg2 x0 x1) (kernelRun0_A.sl.v276 c arg1 harg1 arg2 harg2 x0 x1)) = stack (fun k => mulf (![(kernelRun0_A.sl.v119 c arg1 harg1 arg2 harg2 x0 x1),
      (kernelRun0_A.sl.v128 c arg1 harg1 arg2 harg2 x0 x1),
      (kernelRun0_A.sl.v137 c arg1 harg1 arg2 harg2 x0 x1),
      (kernelRun0_A.sl.v146 c arg1 harg1 arg2 harg2 x0 x1),
      (kernelRun0_A.sl.v155 c arg1 harg1 arg2 harg2 x0 x1),
      (kernelRun0_A.sl.v164 c arg1 harg1 arg2 harg2 x0 x1),
      (kernelRun0_A.sl.v173 c arg1 harg1 arg2 harg2 x0 x1),
      (kernelRun0_A.sl.v182 c arg1 harg1 arg2 harg2 x0 x1),
      (kernelRun0_A.sl.v191 c arg1 harg1 arg2 harg2 x0 x1),
      (kernelRun0_A.sl.v200 c arg1 harg1 arg2 harg2 x0 x1)] k) (invNorm (pairCols (kernelRun0_A.sl.v230 c arg1 harg1 arg2 harg2 x0 x1)))) := rfl

/-- What is stored is the image's result. -/
theorem piece0 : (k0_pay58 (kernelRun0_A.sl.v267 c arg1 harg1 arg2 harg2 x0 x1) (kernelRun0_A.sl.v268 c arg1 harg1 arg2 harg2 x0 x1) (kernelRun0_A.sl.v269 c arg1 harg1 arg2 harg2 x0 x1) (kernelRun0_A.sl.v270 c arg1 harg1 arg2 harg2 x0 x1) (kernelRun0_A.sl.v271 c arg1 harg1 arg2 harg2 x0 x1) (kernelRun0_A.sl.v272 c arg1 harg1 arg2 harg2 x0 x1) (kernelRun0_A.sl.v273 c arg1 harg1 arg2 harg2 x0 x1) (kernelRun0_A.sl.v274 c arg1 harg1 arg2 harg2 x0 x1) (kernelRun0_A.sl.v275 c arg1 harg1 arg2 harg2 x0 x1) (kernelRun0_A.sl.v276 c arg1 harg1 arg2 harg2 x0 x1)) = image0 x0 x1 := by
  rw [stored0, pairRows0, squares0, cells0, bin0, lower0, upper0, phase0, magnitude0, gradX0, gradY0,
    load_plane, load_plane, load_plane, load_bias0, load_bias1]
  rfl

end Cert.KernelIdeal.Hog

end
-- ==== Proof.Stage1.lean ====
/-
  The stages of the second of the four images, as the kernel body's run names them, are those of `image`.
-/
module

public import proofs.«01_k».proof.Proof.Planes

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]
  (c : Dev nD) (arg1 : Memref sig .tc .vmem S4x3x512x512 .f32) (harg1 : arg1.IsWhole)
  (arg2 : Memref sig .tc .smem S2 .f32) (harg2 : arg2.IsWhole) (x0 : Vec F S4x3x512x512 .f32) (x1 : Vec F S2 .f32)

/-- The padded gray image. -/
theorem pad1 (y0 y1 y2 : Vec F S1x1x512x512 .f32) : k0_pay59 y0 y1 y2 = padCols (padRows (gray y0 y1 y2)) := rfl

/-- The horizontal gradient. -/
theorem gradX1 : (kernelRun0_A.sl.r_11 c arg1 harg1 arg2 harg2 x0 x1) = gradX (padCols (padRows (gray (View.readAt (Elt F) arg1.view (Rect.unit (s := S4x3x512x512) ![1, 0, 0, 0] S1x1x512x512.size inb_S4x3x512x512_S1x1x512x512_1_0_0_0).toLoadRect (harg1.unread x0))
      (View.readAt (Elt F) arg1.view (Rect.unit (s := S4x3x512x512) ![1, 1, 0, 0] S1x1x512x512.size inb_S4x3x512x512_S1x1x512x512_1_1_0_0).toLoadRect (harg1.unread x0))
      (View.readAt (Elt F) arg1.view (Rect.unit (s := S4x3x512x512) ![1, 2, 0, 0] S1x1x512x512.size inb_S4x3x512x512_S1x1x512x512_1_2_0_0).toLoadRect (harg1.unread x0))))) (kernelRun0_A.sl.r_3 c arg2 harg2 x1) := rfl

/-- The vertical gradient. -/
theorem gradY1 : (k0_pay65 (kernelRun0_A.sl.r_10 c arg1 harg1 x0) (kernelRun0_A.sl.r_12 c arg1 harg1 x0) (kernelRun0_A.sl.r_4 c arg2 harg2 x1)) = gradY (padCols (padRows (gray (View.readAt (Elt F) arg1.view (Rect.unit (s := S4x3x512x512) ![1, 0, 0, 0] S1x1x512x512.size inb_S4x3x512x512_S1x1x512x512_1_0_0_0).toLoadRect (harg1.unread x0))
      (View.readAt (Elt F) arg1.view (Rect.unit (s := S4x3x512x512) ![1, 1, 0, 0] S1x1x512x512.size inb_S4x3x512x512_S1x1x512x512_1_1_0_0).toLoadRect (harg1.unread x0))
      (View.readAt (Elt F) arg1.view (Rect.unit (s := S4x3x512x512) ![1, 2, 0, 0] S1x1x512x512.size inb_S4x3x512x512_S1x1x512x512_1_2_0_0).toLoadRect (harg1.unread x0))))) (kernelRun0_A.sl.r_4 c arg2 harg2 x1) := rfl

/-- The magnitude. -/
theorem magnitude1 : (kernelRun0_A.sl.r_13 c arg1 harg1 arg2 harg2 x0 x1) = magnitude (kernelRun0_A.sl.r_11 c arg1 harg1 arg2 harg2 x0 x1) (k0_pay65 (kernelRun0_A.sl.r_10 c arg1 harg1 x0) (kernelRun0_A.sl.r_12 c arg1 harg1 x0) (kernelRun0_A.sl.r_4 c arg2 harg2 x1)) := rfl

/-- The phase. -/
theorem phase1 : (kernelRun0_A.sl.v366 c arg1 harg1 arg2 harg2 x0 x1) = phase (kernelRun0_A.sl.r_11 c arg1 harg1 arg2 harg2 x0 x1) (k0_pay65 (kernelRun0_A.sl.r_10 c arg1 harg1 x0) (kernelRun0_A.sl.r_12 c arg1 harg1 x0) (kernelRun0_A.sl.r_4 c arg2 harg2 x1)) := rfl

/-- The lower bin. -/
theorem bin1 : (kernelRun0_A.sl.v379 c arg1 harg1 arg2 harg2 x0 x1) = bin (kernelRun0_A.sl.v366 c arg1 harg1 arg2 harg2 x0 x1) := rfl

/-- The lower bin's share. -/
theorem lower1 : (kernelRun0_A.sl.v377 c arg1 harg1 arg2 harg2 x0 x1) = lower (kernelRun0_A.sl.r_13 c arg1 harg1 arg2 harg2 x0 x1) (kernelRun0_A.sl.v366 c arg1 harg1 arg2 harg2 x0 x1) := rfl

/-- The upper bin's share. -/
theorem upper1 : (kernelRun0_A.sl.v378 c arg1 harg1 arg2 harg2 x0 x1) = upper (kernelRun0_A.sl.r_13 c arg1 harg1 arg2 harg2 x0 x1) (kernelRun0_A.sl.v366 c arg1 harg1 arg2 harg2 x0 x1) := rfl

/-- The ten cells. -/
theorem cells1 : (![(kernelRun0_A.sl.v390 c arg1 harg1 arg2 harg2 x0 x1),
      (kernelRun0_A.sl.v399 c arg1 harg1 arg2 harg2 x0 x1),
      (kernelRun0_A.sl.v408 c arg1 harg1 arg2 harg2 x0 x1),
      (kernelRun0_A.sl.v417 c arg1 harg1 arg2 harg2 x0 x1),
      (kernelRun0_A.sl.v426 c arg1 harg1 arg2 harg2 x0 x1),
      (kernelRun0_A.sl.v435 c arg1 harg1 arg2 harg2 x0 x1),
      (kernelRun0_A.sl.v444 c arg1 harg1 arg2 harg2 x0 x1),
      (kernelRun0_A.sl.v453 c arg1 harg1 arg2 harg2 x0 x1),
      (kernelRun0_A.sl.v462 c arg1 harg1 arg2 harg2 x0 x1),
      (kernelRun0_A.sl.v471 c arg1 harg1 arg2 harg2 x0 x1)] : Fin 10 → FVec F S64x64 .f32) =
    cells (kernelRun0_A.sl.v379 c arg1 harg1 arg2 harg2 x0 x1) (kernelRun0_A.sl.v377 c arg1 harg1 arg2 harg2 x0 x1) (kernelRun0_A.sl.v378 c arg1 harg1 arg2 harg2 x0 x1) := rfl

/-- The sum of their squares. -/
theorem squares1 : (kernelRun0_A.sl.v473 c arg1 harg1 arg2 harg2 x0 x1) = squares ![(kernelRun0_A.sl.v390 c arg1 harg1 arg2 harg2 x0 x1),
      (kernelRun0_A.sl.v399 c arg1 harg1 arg2 harg2 x0 x1),
      (kernelRun0_A.sl.v408 c arg1 harg1 arg2 harg2 x0 x1),
      (kernelRun0_A.sl.v417 c arg1 harg1 arg2 harg2 x0 x1),
      (kernelRun0_A.sl.v426 c arg1 harg1 arg2 harg2 x0 x1),
      (kernelRun0_A.sl.v435 c arg1 harg1 arg2 harg2 x0 x1),
      (kernelRun0_A.sl.v444 c arg1 harg1 arg2 harg2 x0 x1),
      (kernelRun0_A.sl.v453 c arg1 harg1 arg2 harg2 x0 x1),
      (kernelRun0_A.sl.v462 c arg1 harg1 arg2 harg2 x0 x1),
      (kernelRun0_A.sl.v471 c arg1 harg1 arg2 harg2 x0 x1)] := rfl

/-- Its sums over pairs of rows. -/
theorem pairRows1 : (kernelRun0_A.sl.v501 c arg1 harg1 arg2 harg2 x0 x1) = pairRows (kernelRun0_A.sl.v473 c arg1 harg1 arg2 harg2 x0 x1) := rfl

/-- What is stored, from the cells. -/
theorem stored1 : (k0_pay99 (kernelRun0_A.sl.v553 c arg1 harg1 arg2 harg2 x0 x1)) = stack (fun k => mulf (![(kernelRun0_A.sl.v390 c arg1 harg1 arg2 harg2 x0 x1),
      (kernelRun0_A.sl.v399 c arg1 harg1 arg2 harg2 x0 x1),
      (kernelRun0_A.sl.v408 c arg1 harg1 arg2 harg2 x0 x1),
      (kernelRun0_A.sl.v417 c arg1 harg1 arg2 harg2 x0 x1),
      (kernelRun0_A.sl.v426 c arg1 harg1 arg2 harg2 x0 x1),
      (kernelRun0_A.sl.v435 c arg1 harg1 arg2 harg2 x0 x1),
      (kernelRun0_A.sl.v444 c arg1 harg1 arg2 harg2 x0 x1),
      (kernelRun0_A.sl.v453 c arg1 harg1 arg2 harg2 x0 x1),
      (kernelRun0_A.sl.v462 c arg1 harg1 arg2 harg2 x0 x1),
      (kernelRun0_A.sl.v471 c arg1 harg1 arg2 harg2 x0 x1)] k) (invNorm (pairCols (kernelRun0_A.sl.v501 c arg1 harg1 arg2 harg2 x0 x1)))) := rfl

/-- What is stored is the image's result. -/
theorem piece1 : (k0_pay99 (kernelRun0_A.sl.v553 c arg1 harg1 arg2 harg2 x0 x1)) = image1 x0 x1 := by
  rw [stored1, pairRows1, squares1, cells1, bin1, lower1, upper1, phase1, magnitude1, gradX1, gradY1,
    load_plane, load_plane, load_plane, load_bias0, load_bias1]
  rfl

end Cert.KernelIdeal.Hog

end
-- ==== Proof.Stage2.lean ====
/-
  The stages of the third of the four images, as the kernel body's run names them, are those of `image`.
-/
module

public import proofs.«01_k».proof.Proof.Planes

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]
  (c : Dev nD) (arg1 : Memref sig .tc .vmem S4x3x512x512 .f32) (harg1 : arg1.IsWhole)
  (arg2 : Memref sig .tc .smem S2 .f32) (harg2 : arg2.IsWhole) (x0 : Vec F S4x3x512x512 .f32) (x1 : Vec F S2 .f32)

/-- The padded gray image. -/
theorem pad2 (y0 y1 y2 : Vec F S1x1x512x512 .f32) : k0_pay100 y0 y1 y2 = padCols (padRows (gray y0 y1 y2)) := rfl

/-- The horizontal gradient. -/
theorem gradX2 : (kernelRun0_A.sl.r_17 c arg1 harg1 arg2 harg2 x0 x1) = gradX (padCols (padRows (gray (View.readAt (Elt F) arg1.view (Rect.unit (s := S4x3x512x512) ![2, 0, 0, 0] S1x1x512x512.size inb_S4x3x512x512_S1x1x512x512_2_0_0_0).toLoadRect (harg1.unread x0))
      (View.readAt (Elt F) arg1.view (Rect.unit (s := S4x3x512x512) ![2, 1, 0, 0] S1x1x512x512.size inb_S4x3x512x512_S1x1x512x512_2_1_0_0).toLoadRect (harg1.unread x0))
      (View.readAt (Elt F) arg1.view (Rect.unit (s := S4x3x512x512) ![2, 2, 0, 0] S1x1x512x512.size inb_S4x3x512x512_S1x1x512x512_2_2_0_0).toLoadRect (harg1.unread x0))))) (kernelRun0_A.sl.r_3 c arg2 harg2 x1) := rfl

/-- The vertical gradient. -/
theorem gradY2 : (k0_pay105 (kernelRun0_A.sl.r_18 c arg1 harg1 x0) (kernelRun0_A.sl.r_4 c arg2 harg2 x1)) = gradY (padCols (padRows (gray (View.readAt (Elt F) arg1.view (Rect.unit (s := S4x3x512x512) ![2, 0, 0, 0] S1x1x512x512.size inb_S4x3x512x512_S1x1x512x512_2_0_0_0).toLoadRect (harg1.unread x0))
      (View.readAt (Elt F) arg1.view (Rect.unit (s := S4x3x512x512) ![2, 1, 0, 0] S1x1x512x512.size inb_S4x3x512x512_S1x1x512x512_2_1_0_0).toLoadRect (harg1.unread x0))
      (View.readAt (Elt F) arg1.view (Rect.unit (s := S4x3x512x512) ![2, 2, 0, 0] S1x1x512x512.size inb_S4x3x512x512_S1x1x512x512_2_2_0_0).toLoadRect (harg1.unread x0))))) (kernelRun0_A.sl.r_4 c arg2 harg2 x1) := rfl

/-- The magnitude. -/
theorem magnitude2 : (k0_pay106 (kernelRun0_A.sl.r_17 c arg1 harg1 arg2 harg2 x0 x1) (kernelRun0_A.sl.r_18 c arg1 harg1 x0) (kernelRun0_A.sl.r_4 c arg2 harg2 x1)) = magnitude (kernelRun0_A.sl.r_17 c arg1 harg1 arg2 harg2 x0 x1) (k0_pay105 (kernelRun0_A.sl.r_18 c arg1 harg1 x0) (kernelRun0_A.sl.r_4 c arg2 harg2 x1)) := rfl

/-- The phase. -/
theorem phase2 : (k0_pay107 (kernelRun0_A.sl.r_17 c arg1 harg1 arg2 harg2 x0 x1) (kernelRun0_A.sl.r_18 c arg1 harg1 x0) (kernelRun0_A.sl.r_4 c arg2 harg2 x1)) = phase (kernelRun0_A.sl.r_17 c arg1 harg1 arg2 harg2 x0 x1) (k0_pay105 (kernelRun0_A.sl.r_18 c arg1 harg1 x0) (kernelRun0_A.sl.r_4 c arg2 harg2 x1)) := rfl

/-- The lower bin. -/
theorem bin2 : (kernelRun0_A.sl.v650 c arg1 harg1 arg2 harg2 x0 x1) = bin (k0_pay107 (kernelRun0_A.sl.r_17 c arg1 harg1 arg2 harg2 x0 x1) (kernelRun0_A.sl.r_18 c arg1 harg1 x0) (kernelRun0_A.sl.r_4 c arg2 harg2 x1)) := rfl

/-- The lower bin's share. -/
theorem lower2 : (kernelRun0_A.sl.v648 c arg1 harg1 arg2 harg2 x0 x1) = lower (k0_pay106 (kernelRun0_A.sl.r_17 c arg1 harg1 arg2 harg2 x0 x1) (kernelRun0_A.sl.r_18 c arg1 harg1 x0) (kernelRun0_A.sl.r_4 c arg2 harg2 x1)) (k0_pay107 (kernelRun0_A.sl.r_17 c arg1 harg1 arg2 harg2 x0 x1) (kernelRun0_A.sl.r_18 c arg1 harg1 x0) (kernelRun0_A.sl.r_4 c arg2 harg2 x1)) := rfl

/-- The upper bin's share. -/
theorem upper2 : (kernelRun0_A.sl.v649 c arg1 harg1 arg2 harg2 x0 x1) = upper (k0_pay106 (kernelRun0_A.sl.r_17 c arg1 harg1 arg2 harg2 x0 x1) (kernelRun0_A.sl.r_18 c arg1 harg1 x0) (kernelRun0_A.sl.r_4 c arg2 harg2 x1)) (k0_pay107 (kernelRun0_A.sl.r_17 c arg1 harg1 arg2 harg2 x0 x1) (kernelRun0_A.sl.r_18 c arg1 harg1 x0) (kernelRun0_A.sl.r_4 c arg2 harg2 x1)) := rfl

/-- The ten cells. -/
theorem cells2 : (![(kernelRun0_A.sl.v661 c arg1 harg1 arg2 harg2 x0 x1),
      (kernelRun0_A.sl.v670 c arg1 harg1 arg2 harg2 x0 x1),
      (kernelRun0_A.sl.v679 c arg1 harg1 arg2 harg2 x0 x1),
      (kernelRun0_A.sl.v688 c arg1 harg1 arg2 harg2 x0 x1),
      (kernelRun0_A.sl.v697 c arg1 harg1 arg2 harg2 x0 x1),
      (kernelRun0_A.sl.v706 c arg1 harg1 arg2 harg2 x0 x1),
      (kernelRun0_A.sl.v715 c arg1 harg1 arg2 harg2 x0 x1),
      (kernelRun0_A.sl.v724 c arg1 harg1 arg2 harg2 x0 x1),
      (kernelRun0_A.sl.v733 c arg1 harg1 arg2 harg2 x0 x1),
      (kernelRun0_A.sl.v742 c arg1 harg1 arg2 harg2 x0 x1)] : Fin 10 → FVec F S64x64 .f32) =
    cells (kernelRun0_A.sl.v650 c arg1 harg1 arg2 harg2 x0 x1) (kernelRun0_A.sl.v648 c arg1 harg1 arg2 harg2 x0 x1) (kernelRun0_A.sl.v649 c arg1 harg1 arg2 harg2 x0 x1) := rfl

/-- The sum of their squares. -/
theorem squares2 : (kernelRun0_A.sl.v744 c arg1 harg1 arg2 harg2 x0 x1) = squares ![(kernelRun0_A.sl.v661 c arg1 harg1 arg2 harg2 x0 x1),
      (kernelRun0_A.sl.v670 c arg1 harg1 arg2 harg2 x0 x1),
      (kernelRun0_A.sl.v679 c arg1 harg1 arg2 harg2 x0 x1),
      (kernelRun0_A.sl.v688 c arg1 harg1 arg2 harg2 x0 x1),
      (kernelRun0_A.sl.v697 c arg1 harg1 arg2 harg2 x0 x1),
      (kernelRun0_A.sl.v706 c arg1 harg1 arg2 harg2 x0 x1),
      (kernelRun0_A.sl.v715 c arg1 harg1 arg2 harg2 x0 x1),
      (kernelRun0_A.sl.v724 c arg1 harg1 arg2 harg2 x0 x1),
      (kernelRun0_A.sl.v733 c arg1 harg1 arg2 harg2 x0 x1),
      (kernelRun0_A.sl.v742 c arg1 harg1 arg2 harg2 x0 x1)] := rfl

/-- Its sums over pairs of rows. -/
theorem pairRows2 : (kernelRun0_A.sl.v772 c arg1 harg1 arg2 harg2 x0 x1) = pairRows (kernelRun0_A.sl.v744 c arg1 harg1 arg2 harg2 x0 x1) := rfl

/-- What is stored, from the cells. -/
theorem stored2 : (kernelRun0_A.sl.v827 c arg1 harg1 arg2 harg2 x0 x1) = stack (fun k => mulf (![(kernelRun0_A.sl.v661 c arg1 harg1 arg2 harg2 x0 x1),
      (kernelRun0_A.sl.v670 c arg1 harg1 arg2 harg2 x0 x1),
      (kernelRun0_A.sl.v679 c arg1 harg1 arg2 harg2 x0 x1),
      (kernelRun0_A.sl.v688 c arg1 harg1 arg2 harg2 x0 x1),
      (kernelRun0_A.sl.v697 c arg1 harg1 arg2 harg2 x0 x1),
      (kernelRun0_A.sl.v706 c arg1 harg1 arg2 harg2 x0 x1),
      (kernelRun0_A.sl.v715 c arg1 harg1 arg2 harg2 x0 x1),
      (kernelRun0_A.sl.v724 c arg1 harg1 arg2 harg2 x0 x1),
      (kernelRun0_A.sl.v733 c arg1 harg1 arg2 harg2 x0 x1),
      (kernelRun0_A.sl.v742 c arg1 harg1 arg2 harg2 x0 x1)] k) (invNorm (pairCols (kernelRun0_A.sl.v772 c arg1 harg1 arg2 harg2 x0 x1)))) := rfl

/-- What is stored is the image's result. -/
theorem piece2 : (kernelRun0_A.sl.v827 c arg1 harg1 arg2 harg2 x0 x1) = image2 x0 x1 := by
  rw [stored2, pairRows2, squares2, cells2, bin2, lower2, upper2, phase2, magnitude2, gradX2, gradY2,
    load_plane, load_plane, load_plane, load_bias0, load_bias1]
  rfl

end Cert.KernelIdeal.Hog

end
-- ==== Proof.Stage3.lean ====
/-
  The stages of the fourth of the four images, as the kernel body's run names them, are those of `image`.
-/
module

public import proofs.«01_k».proof.Proof.Planes

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]
  (c : Dev nD) (arg1 : Memref sig .tc .vmem S4x3x512x512 .f32) (harg1 : arg1.IsWhole)
  (arg2 : Memref sig .tc .smem S2 .f32) (harg2 : arg2.IsWhole) (x0 : Vec F S4x3x512x512 .f32) (x1 : Vec F S2 .f32)

/-- The padded gray image. -/
theorem pad3 (y0 y1 y2 : Vec F S1x1x512x512 .f32) : k0_pay142 y0 y1 y2 = padCols (padRows (gray y0 y1 y2)) := rfl

/-- The horizontal gradient. -/
theorem gradX3 : (kernelRun0_A.sl.r_22 c arg1 harg1 arg2 harg2 x0 x1) = gradX (padCols (padRows (gray (View.readAt (Elt F) arg1.view (Rect.unit (s := S4x3x512x512) ![3, 0, 0, 0] S1x1x512x512.size inb_S4x3x512x512_S1x1x512x512_3_0_0_0).toLoadRect (harg1.unread x0))
      (View.readAt (Elt F) arg1.view (Rect.unit (s := S4x3x512x512) ![3, 1, 0, 0] S1x1x512x512.size inb_S4x3x512x512_S1x1x512x512_3_1_0_0).toLoadRect (harg1.unread x0))
      (View.readAt (Elt F) arg1.view (Rect.unit (s := S4x3x512x512) ![3, 2, 0, 0] S1x1x512x512.size inb_S4x3x512x512_S1x1x512x512_3_2_0_0).toLoadRect (harg1.unread x0))))) (kernelRun0_A.sl.r_3 c arg2 harg2 x1) := rfl

/-- The vertical gradient. -/
theorem gradY3 : (kernelRun0_A.sl.r_23 c arg1 harg1 arg2 harg2 x0 x1) = gradY (padCols (padRows (gray (View.readAt (Elt F) arg1.view (Rect.unit (s := S4x3x512x512) ![3, 0, 0, 0] S1x1x512x512.size inb_S4x3x512x512_S1x1x512x512_3_0_0_0).toLoadRect (harg1.unread x0))
      (View.readAt (Elt F) arg1.view (Rect.unit (s := S4x3x512x512) ![3, 1, 0, 0] S1x1x512x512.size inb_S4x3x512x512_S1x1x512x512_3_1_0_0).toLoadRect (harg1.unread x0))
      (View.readAt (Elt F) arg1.view (Rect.unit (s := S4x3x512x512) ![3, 2, 0, 0] S1x1x512x512.size inb_S4x3x512x512_S1x1x512x512_3_2_0_0).toLoadRect (harg1.unread x0))))) (kernelRun0_A.sl.r_4 c arg2 harg2 x1) := rfl

/-- The magnitude. -/
theorem magnitude3 : (kernelRun0_A.sl.r_24 c arg1 harg1 arg2 harg2 x0 x1) = magnitude (kernelRun0_A.sl.r_22 c arg1 harg1 arg2 harg2 x0 x1) (kernelRun0_A.sl.r_23 c arg1 harg1 arg2 harg2 x0 x1) := rfl

/-- The phase. -/
theorem phase3 : (k0_pay148 (kernelRun0_A.sl.r_22 c arg1 harg1 arg2 harg2 x0 x1) (kernelRun0_A.sl.r_23 c arg1 harg1 arg2 harg2 x0 x1)) = phase (kernelRun0_A.sl.r_22 c arg1 harg1 arg2 harg2 x0 x1) (kernelRun0_A.sl.r_23 c arg1 harg1 arg2 harg2 x0 x1) := rfl

/-- The lower bin. -/
theorem bin3 : (kernelRun0_A.sl.v921 c arg1 harg1 arg2 harg2 x0 x1) = bin (k0_pay148 (kernelRun0_A.sl.r_22 c arg1 harg1 arg2 harg2 x0 x1) (kernelRun0_A.sl.r_23 c arg1 harg1 arg2 harg2 x0 x1)) := rfl

/-- The lower bin's share. -/
theorem lower3 : (kernelRun0_A.sl.r_27 c arg1 harg1 arg2 harg2 x0 x1) = lower (kernelRun0_A.sl.r_24 c arg1 harg1 arg2 harg2 x0 x1) (k0_pay148 (kernelRun0_A.sl.r_22 c arg1 harg1 arg2 harg2 x0 x1) (kernelRun0_A.sl.r_23 c arg1 harg1 arg2 harg2 x0 x1)) := rfl

/-- The upper bin's share. -/
theorem upper3 : (kernelRun0_A.sl.v920 c arg1 harg1 arg2 harg2 x0 x1) = upper (kernelRun0_A.sl.r_24 c arg1 harg1 arg2 harg2 x0 x1) (k0_pay148 (kernelRun0_A.sl.r_22 c arg1 harg1 arg2 harg2 x0 x1) (kernelRun0_A.sl.r_23 c arg1 harg1 arg2 harg2 x0 x1)) := rfl

/-- The ten cells. -/
theorem cells3 : (![(kernelRun0_A.sl.v932 c arg1 harg1 arg2 harg2 x0 x1),
      (kernelRun0_A.sl.v941 c arg1 harg1 arg2 harg2 x0 x1),
      (kernelRun0_A.sl.v950 c arg1 harg1 arg2 harg2 x0 x1),
      (kernelRun0_A.sl.v959 c arg1 harg1 arg2 harg2 x0 x1),
      (kernelRun0_A.sl.v968 c arg1 harg1 arg2 harg2 x0 x1),
      (kernelRun0_A.sl.v977 c arg1 harg1 arg2 harg2 x0 x1),
      (kernelRun0_A.sl.v986 c arg1 harg1 arg2 harg2 x0 x1),
      (kernelRun0_A.sl.v995 c arg1 harg1 arg2 harg2 x0 x1),
      (kernelRun0_A.sl.v1004 c arg1 harg1 arg2 harg2 x0 x1),
      (kernelRun0_A.sl.v1013 c arg1 harg1 arg2 harg2 x0 x1)] : Fin 10 → FVec F S64x64 .f32) =
    cells (kernelRun0_A.sl.v921 c arg1 harg1 arg2 harg2 x0 x1) (kernelRun0_A.sl.r_27 c arg1 harg1 arg2 harg2 x0 x1) (kernelRun0_A.sl.v920 c arg1 harg1 arg2 harg2 x0 x1) := rfl

/-- The sum of their squares. -/
theorem squares3 : (kernelRun0_A.sl.v1015 c arg1 harg1 arg2 harg2 x0 x1) = squares ![(kernelRun0_A.sl.v932 c arg1 harg1 arg2 harg2 x0 x1),
      (kernelRun0_A.sl.v941 c arg1 harg1 arg2 harg2 x0 x1),
      (kernelRun0_A.sl.v950 c arg1 harg1 arg2 harg2 x0 x1),
      (kernelRun0_A.sl.v959 c arg1 harg1 arg2 harg2 x0 x1),
      (kernelRun0_A.sl.v968 c arg1 harg1 arg2 harg2 x0 x1),
      (kernelRun0_A.sl.v977 c arg1 harg1 arg2 harg2 x0 x1),
      (kernelRun0_A.sl.v986 c arg1 harg1 arg2 harg2 x0 x1),
      (kernelRun0_A.sl.v995 c arg1 harg1 arg2 harg2 x0 x1),
      (kernelRun0_A.sl.v1004 c arg1 harg1 arg2 harg2 x0 x1),
      (kernelRun0_A.sl.v1013 c arg1 harg1 arg2 harg2 x0 x1)] := rfl

/-- Its sums over pairs of rows. -/
theorem pairRows3 : (kernelRun0_A.sl.v1043 c arg1 harg1 arg2 harg2 x0 x1) = pairRows (kernelRun0_A.sl.v1015 c arg1 harg1 arg2 harg2 x0 x1) := rfl

/-- What is stored, from the cells. -/
theorem stored3 : (k0_pay1 (kernelRun0_A.sl.r_28 c arg1 harg1 arg2 harg2 x0 x1) (kernelRun0_A.sl.r_29 c arg1 harg1 arg2 harg2 x0 x1) (kernelRun0_A.sl.r_30 c arg1 harg1 arg2 harg2 x0 x1) (kernelRun0_A.sl.r_31 c arg1 harg1 arg2 harg2 x0 x1) (kernelRun0_A.sl.r_32 c arg1 harg1 arg2 harg2 x0 x1) (kernelRun0_A.sl.r_33 c arg1 harg1 arg2 harg2 x0 x1) (kernelRun0_A.sl.r_34 c arg1 harg1 arg2 harg2 x0 x1) (kernelRun0_A.sl.r_35 c arg1 harg1 arg2 harg2 x0 x1) (kernelRun0_A.sl.r_36 c arg1 harg1 arg2 harg2 x0 x1) (kernelRun0_A.sl.r_37 c arg1 harg1 arg2 harg2 x0 x1)) = stack (fun k => mulf (![(kernelRun0_A.sl.v932 c arg1 harg1 arg2 harg2 x0 x1),
      (kernelRun0_A.sl.v941 c arg1 harg1 arg2 harg2 x0 x1),
      (kernelRun0_A.sl.v950 c arg1 harg1 arg2 harg2 x0 x1),
      (kernelRun0_A.sl.v959 c arg1 harg1 arg2 harg2 x0 x1),
      (kernelRun0_A.sl.v968 c arg1 harg1 arg2 harg2 x0 x1),
      (kernelRun0_A.sl.v977 c arg1 harg1 arg2 harg2 x0 x1),
      (kernelRun0_A.sl.v986 c arg1 harg1 arg2 harg2 x0 x1),
      (kernelRun0_A.sl.v995 c arg1 harg1 arg2 harg2 x0 x1),
      (kernelRun0_A.sl.v1004 c arg1 harg1 arg2 harg2 x0 x1),
      (kernelRun0_A.sl.v1013 c arg1 harg1 arg2 harg2 x0 x1)] k) (invNorm (pairCols (kernelRun0_A.sl.v1043 c arg1 harg1 arg2 harg2 x0 x1)))) := rfl

/-- What is stored is the image's result. -/
theorem piece3 : (k0_pay1 (kernelRun0_A.sl.r_28 c arg1 harg1 arg2 harg2 x0 x1) (kernelRun0_A.sl.r_29 c arg1 harg1 arg2 harg2 x0 x1) (kernelRun0_A.sl.r_30 c arg1 harg1 arg2 harg2 x0 x1) (kernelRun0_A.sl.r_31 c arg1 harg1 arg2 harg2 x0 x1) (kernelRun0_A.sl.r_32 c arg1 harg1 arg2 harg2 x0 x1) (kernelRun0_A.sl.r_33 c arg1 harg1 arg2 harg2 x0 x1) (kernelRun0_A.sl.r_34 c arg1 harg1 arg2 harg2 x0 x1) (kernelRun0_A.sl.r_35 c arg1 harg1 arg2 harg2 x0 x1) (kernelRun0_A.sl.r_36 c arg1 harg1 arg2 harg2 x0 x1) (kernelRun0_A.sl.r_37 c arg1 harg1 arg2 harg2 x0 x1)) = image3 x0 x1 := by
  rw [stored3, pairRows3, squares3, cells3, bin3, lower3, upper3, phase3, magnitude3, gradX3, gradY3,
    load_plane, load_plane, load_plane, load_bias0, load_bias1]
  rfl

end Cert.KernelIdeal.Hog

end
-- ==== Proof.Pieces.lean ====
/-
  The four pieces the kernel body stores are the four images' results.
-/
module

public import proofs.«01_k».proof.Proof.Stage0
public import proofs.«01_k».proof.Proof.Stage1
public import proofs.«01_k».proof.Proof.Stage2
public import proofs.«01_k».proof.Proof.Stage3

@[expose] public section

set_option maxRecDepth 16384

noncomputable section

namespace Cert.KernelIdeal.Hog

open Cert.KernelIdeal Cert.KernelIdeal.Gen Idealize.ShloMosaic Idealize.ShloMosaic.TcCoe

variable {F : FTy → Type} [FloatOps F] [Named F]

/-- The pieces the body stores, last first. -/
theorem pieces (c : Dev nD) (i : grid0.Coords) (arg1 : Memref sig .tc .vmem S4x3x512x512 .f32) (harg1 : arg1.IsWhole)
    (arg2 : Memref sig .tc .smem S2 .f32) (harg2 : arg2.IsWhole) (arg3 : Memref sig .tc .vmem S4x10x64x64 .f32)
    (harg3 : arg3.IsWhole) (x0 : Vec F S4x3x512x512 .f32) (x1 : Vec F S2 .f32) :
    (kernelRun0_A c i arg1 harg1 arg2 harg2 arg3 harg3 x0 x1).1 =
      [⟨Rect.unit ![3, 0, 0, 0] ![1, 10, 64, 64] inb_S4x10x64x64_S1x10x64x64_3_0_0_0, image3 x0 x1⟩,
       ⟨Rect.unit ![2, 0, 0, 0] ![1, 10, 64, 64] inb_S4x10x64x64_S1x10x64x64_2_0_0_0, image2 x0 x1⟩,
       ⟨Rect.unit ![1, 0, 0, 0] ![1, 10, 64, 64] inb_S4x10x64x64_S1x10x64x64_1_0_0_0, image1 x0 x1⟩,
       ⟨Rect.unit ![0, 0, 0, 0] ![1, 10, 64, 64] inb_S4x10x64x64_S1x10x64x64_0_0_0_0, image0 x0 x1⟩] := by
  unfold kernelRun0_A
  dsimp only
  rw [piece0, piece1, piece2, piece3]

end Cert.KernelIdeal.Hog

end
-- ==== Proof.KArray.lean ====
/-
  The kernel's result array: what a grid point writes, and the array after the run, at every index.
-/
module

public import proofs.«01_k».proof.Proof.KImage
public import proofs.«01_k».proof.Proof.Pieces
public import proofs.«01_k».proof.Proof.Gen.KernelIdeal.Value
public import Idealize.ShloMosaic.Lib.Pipeline.Value
public import Idealize.ShloMosaic.Lib.Pipeline.ValueKit

@[expose] public section

set_option maxRecDepth 16384

noncomputable section

namespace Cert.KernelIdeal.Hog

open Cert.KernelIdeal Cert.KernelIdeal.Gen Cert.KernelIdeal.Value Cert.Hog Idealize.ShloMosaic Idealize.ShloMosaic.TcCoe
open Idealize.SL.Sem

/-- The biases, from their array. -/
def biasesOf (b : Vec Ideal S2 .f32) (o : Fin 2) : EReal := (b : FVec Ideal S2 .f32) (ix1 o)

/-- What a grid point leaves for a block of four images. -/
def blockResult (x : Vec Ideal S4x3x512x512 .f32) (b : Vec Ideal S2 .f32) : Vec Ideal S4x10x64x64 .f32 := fun y =>
  batch (fun n k i j => (x : FVec Ideal S4x3x512x512 .f32) (ix4 n k i j)) (biasesOf b) (y 0) (y 1) (y 2) (y 3)

/-- What the kernel leaves for sixteen images. -/
def result (x : Vec Ideal S16x3x512x512 .f32) (b : Vec Ideal S2 .f32) : Vec Ideal S16x10x64x64 .f32 := fun y =>
  batch (fun n k i j => (x : FVec Ideal S16x3x512x512 .f32) (ix4 n k i j)) (biasesOf b) (y 0) (y 1) (y 2) (y 3)

/-- A plane of a staged block, at a pixel. -/
theorem plane_apply (x : Vec Ideal S4x3x512x512 .f32) (n : Fin 4) (k : Fin 3)
    (h : ∀ d, (![n.val, k.val, 0, 0] : Fin 4 → ℕ) d + S1x1x512x512.size d ≤ S4x3x512x512.size d) (i j : Fin 512) :
    (plane x n.val k.val h : FVec Ideal S1x1x512x512 .f32) (ix4 0 0 i j) = (x : FVec Ideal S4x3x512x512 .f32) (ix4 n k i j) := by
  refine congrArg x (funext fun a => Fin.ext ?_)
  match a with
  | ⟨0, _⟩ => show n.val + 1 * 0 = n.val; omega
  | ⟨1, _⟩ => show k.val + 1 * 0 = k.val; omega
  | ⟨2, _⟩ => show 0 + 1 * i.val = i.val; omega
  | ⟨3, _⟩ => show 0 + 1 * j.val = j.val; omega

/-- A staged bias is the array's. -/
theorem bias_apply (b : Vec Ideal S2 .f32) (o : Fin 2) (h : ∀ d, (![o.val] : Fin 1 → ℕ) d + S1.size d ≤ S2.size d) :
    bias b o.val h = biasesOf b o := by
  refine congrArg b (funext fun a => Fin.ext ?_)
  match a with
  | ⟨0, _⟩ => show o.val + 1 * 0 = o.val; omega

/-- The three planes of image `n` of a block are its pixels. -/
theorem planes_eq (x : Vec Ideal S4x3x512x512 .f32) (n : Fin 4) (h0 h1 h2) :
    pixels (plane x n.val 0 h0) (plane x n.val 1 h1) (plane x n.val 2 h2)
      = fun k i j => (x : FVec Ideal S4x3x512x512 .f32) (ix4 n k i j) := by
  funext k i j
  unfold pixels
  match k with
  | ⟨0, _⟩ => exact plane_apply x n 0 h0 i j
  | ⟨1, _⟩ => exact plane_apply x n 1 h1 i j
  | ⟨2, _⟩ => exact plane_apply x n 2 h2 i j

/-- The two staged biases are the array's. -/
theorem biases_eq (b : Vec Ideal S2 .f32) (h0 h1) : ![bias b 0 h0, bias b 1 h1] = biasesOf b := by
  funext o
  match o with
  | ⟨0, _⟩ => exact bias_apply b 0 h0
  | ⟨1, _⟩ => exact bias_apply b 1 h1

/-- The piece stored for image `n` of the block holds the block's result where it lies. -/
theorem piece_eq (x : Vec Ideal S4x3x512x512 .f32) (b : Vec Ideal S2 .f32) (n : Fin 4) (h0 h1 h2 g0 g1)
    (h : ∀ d, (![n.val, 0, 0, 0] : Fin 4 → ℕ) d + (![1, 10, 64, 64] : Fin 4 → ℕ) d ≤ S4x10x64x64.size d) (y : S1x10x64x64.Idx) :
    image (plane x n.val 0 h0) (plane x n.val 1 h1) (plane x n.val 2 h2) (bias b 0 g0) (bias b 1 g1) y
      = blockResult x b ((Rect.unit (s := S4x10x64x64) ![n.val, 0, 0, 0] ![1, 10, 64, 64] h).emb y) := by
  obtain ⟨a, c, i, j, rfl⟩ : ∃ (a : Fin 1) (c : Fin 10) (i j : Fin 64), y = ix4 a c i j := ⟨y 0, y 1, y 2, y 3, by
    funext a; match a with | ⟨0, _⟩ => rfl | ⟨1, _⟩ => rfl | ⟨2, _⟩ => rfl | ⟨3, _⟩ => rfl⟩
  obtain rfl : a = 0 := Subsingleton.elim _ _
  rw [image_apply, planes_eq, biases_eq]
  have e : (Rect.unit (s := S4x10x64x64) ![n.val, 0, 0, 0] ![1, 10, 64, 64] h).emb (ix4 (0 : Fin 1) c i j) = ix4 n c i j := by
    funext a; apply Fin.ext
    match a with
    | ⟨0, _⟩ => show n.val + 1 * 0 = n.val; omega
    | ⟨1, _⟩ => show 0 + 1 * c.val = c.val; omega
    | ⟨2, _⟩ => show 0 + 1 * i.val = i.val; omega
    | ⟨3, _⟩ => show 0 + 1 * j.val = j.val; omega
  rw [e]
  rfl

/-- What the body leaves in the output block. -/
theorem out_eq (c : Dev nD) (i : grid0.Coords) (arg1 : Memref sig .tc .vmem S4x3x512x512 .f32) (harg1 : arg1.IsWhole)
    (arg2 : Memref sig .tc .smem S2 .f32) (harg2 : arg2.IsWhole) (arg3 : Memref sig .tc .vmem S4x10x64x64 .f32)
    (harg3 : arg3.IsWhole) (x : Vec Ideal S4x3x512x512 .f32) (b : Vec Ideal S2 .f32) :
    out0_A_2 c i arg1 harg1 arg2 harg2 arg3 harg3 x b = blockResult x b := by
  funext y
  have hc := cover0_A_2 c i arg1 harg1 arg2 harg2 arg3 harg3 x b
  unfold out0_A_2
  rw [View.read_writes_junk_eq_canon]
  rw [pieces] at hc ⊢
  refine View.canon_apply_of_pieces (blockResult x b) _ (fun p hp j => ?_) y (hc y)
  simp only [List.mem_cons, List.mem_nil_iff, or_false] at hp
  rcases hp with rfl | rfl | rfl | rfl
  · exact piece_eq x b 3 _ _ _ _ _ inb_S4x10x64x64_S1x10x64x64_3_0_0_0 j
  · exact piece_eq x b 2 _ _ _ _ _ inb_S4x10x64x64_S1x10x64x64_2_0_0_0 j
  · exact piece_eq x b 1 _ _ _ _ _ inb_S4x10x64x64_S1x10x64x64_1_0_0_0 j
  · exact piece_eq x b 0 _ _ _ _ _ inb_S4x10x64x64_S1x10x64x64_0_0_0_0 j

/-- The block indices of the windows at a grid point. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- The biases' window is always at its one block. -/
theorem idx1 : ∀ t : Fin cfg0.N, win0_1.index t (0 : Fin 1) = 0 := (by decide +kernel : ∀ t : Fin grid0.N, _)
/-- The result's window is at block `t` at point `t`. -/
theorem idx2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
/-- The grid has four points. -/
theorem point_lt : ∀ t : Fin cfg0.N, t.val < 4 := (by decide +kernel : ∀ t : Fin grid0.N, _)

/-- Image `n` of the block at point `t`, in the whole batch. -/
def place (t : Fin cfg0.N) (n : Fin 4) : Fin 16 := ⟨t.val * 4 + n.val, by have := point_lt t; omega⟩

/-- A pixel of the staged block of images, in the whole array. -/
theorem emb0 (t : Fin cfg0.N) (n : Fin 4) (k : Fin 3) (i j : Fin 512) :
    ((cfg0.win 0).blk t).view.emb (ix4 n k i j : S4x3x512x512.Idx) = (ix4 (place t n) k i j : S16x3x512x512.Idx) := by
  obtain ⟨e0, e1, e2, e3⟩ := idx0 t
  funext a; apply Fin.ext
  match a with
  | ⟨0, _⟩ => show win0_0.index t (0 : Fin 4) * 4 + 1 * n.val = t.val * 4 + n.val; omega
  | ⟨1, _⟩ => show win0_0.index t (1 : Fin 4) * 3 + 1 * k.val = k.val; omega
  | ⟨2, _⟩ => show win0_0.index t (2 : Fin 4) * 512 + 1 * i.val = i.val; omega
  | ⟨3, _⟩ => show win0_0.index t (3 : Fin 4) * 512 + 1 * j.val = j.val; omega

/-- The staged biases are the whole array. -/
theorem emb1 (t : Fin cfg0.N) (j : S2.Idx) : ((cfg0.win 1).blk t).view.emb j = j := by
  have e0 := idx1 t
  funext a; apply Fin.ext
  match a with
  | ⟨0, _⟩ => show win0_1.index t (0 : Fin 1) * 2 + 1 * (j 0).val = (j 0).val; omega

/-- An element of the output block, in the whole array. -/
theorem emb2 (t : Fin cfg0.N) (n : Fin 4) (c : Fin 10) (i j : Fin 64) :
    ((cfg0.win 2).blk t).view.emb (ix4 n c i j : S4x10x64x64.Idx) = (ix4 (place t n) c i j : S16x10x64x64.Idx) := by
  obtain ⟨e0, e1, e2, e3⟩ := idx2 t
  funext a; apply Fin.ext
  match a with
  | ⟨0, _⟩ => show win0_2.index t (0 : Fin 4) * 4 + 1 * n.val = t.val * 4 + n.val; omega
  | ⟨1, _⟩ => show win0_2.index t (1 : Fin 4) * 10 + 1 * c.val = c.val; omega
  | ⟨2, _⟩ => show win0_2.index t (2 : Fin 4) * 64 + 1 * i.val = i.val; omega
  | ⟨3, _⟩ => show win0_2.index t (3 : Fin 4) * 64 + 1 * j.val = j.val; omega

variable (m : (ℓ : Loc nD τ sig) → Buf (Elt Ideal) ℓ) (ρ : Dev nD → PrngReg)

/-- The staged block of images, at a pixel. -/
theorem iblk0_apply (c : Dev nD) (t : Fin cfg0.N) (n : Fin 4) (k : Fin 3) (i j : Fin 512) :
    (iblk m c 0 t : FVec Ideal S4x3x512x512 .f32) (ix4 n k i j)
      = (V m c main_arg0 : FVec Ideal S16x3x512x512 .f32) (ix4 (place t n) k i j) := by
  show V m c main_arg0 (((cfg0.win 0).blk t).view.emb (ix4 n k i j : S4x3x512x512.Idx)) = _
  rw [emb0]

/-- The staged biases. -/
theorem iblk1_eq (c : Dev nD) (t : Fin cfg0.N) : iblk m c 1 t = V m c main_arg2 := by
  funext j; show V m c main_arg2 (((cfg0.win 1).blk t).view.emb j) = V m c main_arg2 j; rw [emb1]

/-- What a grid point writes back is its block of the result. -/
theorem flushed_eq (c : Dev nD) (t : Fin cfg0.N) :
    (dats m 0 c).flushed 2 t = ((cfg0.win 2).blk t).view.read (Elt Ideal) (result (V m c main_arg0) (V m c main_arg2)) := by
  rw [flushed2_A, out_eq, iblk1_eq]
  funext (y : S4x10x64x64.Idx)
  obtain ⟨n, a, i, j, rfl⟩ : ∃ (n : Fin 4) (a : Fin 10) (i j : Fin 64), y = ix4 n a i j := ⟨y 0, y 1, y 2, y 3, by
    funext a; match a with | ⟨0, _⟩ => rfl | ⟨1, _⟩ => rfl | ⟨2, _⟩ => rfl | ⟨3, _⟩ => rfl⟩
  show blockResult (iblk m c 0 t) (V m c main_arg2) (ix4 n a i j)
    = result (V m c main_arg0) (V m c main_arg2) (((cfg0.win 2).blk t).view.emb (ix4 n a i j : S4x10x64x64.Idx))
  rw [emb2]
  show hog (imageCell (fun k i j => (iblk m c 0 t : FVec Ideal S4x3x512x512 .f32) (ix4 n k i j)) _) a i j = _
  simp only [iblk0_apply]
  rfl

/-- Every index of the result array is in some point's block. -/
theorem covered (y : S16x10x64x64.Idx) :
    ∃ t : Fin cfg0.N, (cfg0.win 2).flush t = true ∧ y ∈ ((cfg0.win 2).blk t).view.set := by
  have hN : ∀ q : ℕ, q < 4 → q < cfg0.N := by decide
  have h0 : (y 0).val < 16 := (y 0).isLt
  let t : Fin cfg0.N := ⟨(y 0).val / 4, hN _ (by omega)⟩
  let n : Fin 4 := ⟨(y 0).val % 4, Nat.mod_lt _ (by decide)⟩
  have h := ((cfg0.win 2).blk t).view.emb_mem_set (ix4 n (y 1 : Fin 10) (y 2 : Fin 64) (y 3 : Fin 64) : S4x10x64x64.Idx)
  refine ⟨t, flush0_2 _, ?_⟩
  replace h := (emb2 t n (y 1 : Fin 10) (y 2 : Fin 64) (y 3 : Fin 64)) ▸ h
  have e : (ix4 (place t n) (y 1 : Fin 10) (y 2 : Fin 64) (y 3 : Fin 64) : S16x10x64x64.Idx) = y := by
    funext a
    match a with
    | ⟨0, _⟩ => exact Fin.ext (by show (y 0).val / 4 * 4 + (y 0).val % 4 = (y 0).val; omega)
    | ⟨1, _⟩ => rfl
    | ⟨2, _⟩ => rfl
    | ⟨3, _⟩ => rfl
  rwa [e] at h

/-- The result array after the run. -/
theorem final (c : Dev nD) : (dats m 0 c).arrAt 2 cfg0.N
    = result (m ((c : Thread nD τ).loc main_arg0)) (m ((c : Thread nD τ).loc main_arg2)) :=
  ((dats m 0 c).arrAt_eq_of_cover 2 (result (V m c main_arg0) (V m c main_arg2)) (fun t _ => flushed_eq m c t) covered).trans
    (by rw [V_main_arg0, V_main_arg2])

/-- The kernel's run, read: the result array at its function of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hog

end
-- ==== Proof.RefPhase.lean ====
/-
  The reference at one pixel: its padded mean image, its two gradients, its magnitude and its position among the bins.
-/
module

public import proofs.«01_k».proof.Proof.Gen.ReferenceIdeal.Run
public import proofs.«01_k».proof.Proof.Gradient
public import Idealize.ShloMosaic.Lib.Pipeline.ValueKit
public import Idealize.ShloMosaic.Lib.Tactic.CleanTypes

@[expose] public section

set_option maxRecDepth 16384

noncomputable section

namespace Cert.ReferenceIdeal.Hog

open Cert.ReferenceIdeal Cert.ReferenceIdeal.Gen Cert.ReferenceIdeal.Value Cert.Hog
open Idealize.ShloMosaic Idealize.ShloMosaic.TcCoe

/-- One image of the argument. -/
def pixels (V : Valuation τ sig (Elt Ideal)) (b : Fin 16) (k : Fin 3) (i j : Fin 512) : EReal :=
  (V (Proc.devRef .tc main_arg0) : FVec Ideal S16x3x512x512 .f32) (ix4 b k i j)

/-- The two biases. -/
def biases (V : Valuation τ sig (Elt Ideal)) (o : Fin 2) : EReal := (V (Proc.devRef .tc main_arg2) : FVec Ideal S2 .f32) (ix1 o)

/-- The filters. -/
def filters (V : Valuation τ sig (Elt Ideal)) (o : Fin 2) (r s : Fin 3) : EReal :=
  (V (Proc.devRef .tc main_arg1) : FVec Ideal S2x1x3x3 .f32) (ix4 o 0 r s)

variable (V : Valuation τ sig (Elt Ideal)) (b : Fin 16) (i j : Fin 512) (r s : Fin 514)

/-- The grey image. -/
theorem v2_apply : (res_main_v2 V : FVec Ideal S16x512x512 .f32) (ix3 b i j) = greyAt (pixels V b) i j := by
  unfold res_main_v2
  clean_types
  pointwise
  rw [lit_3, Ideal.div_coe (by norm_num), Fin.sum_univ_three]
  rfl

/-- The grey image with its rows padded. -/
theorem v5_apply : (res_main_v5 V : FVec Ideal S16x514x512 .f32) (ix3 b r j) = greyAt (pixels V b) (clamp r) j := by
  unfold res_main_v5
  clean_types
  pointwise
  split_ifs
  all_goals
    erw [v2_apply]
    congr 1
    apply Fin.ext
    simp only [clamp]
    omega

/-- The padded image. -/
theorem v8_apply : (res_main_v8 V : FVec Ideal S16x514x514 .f32) (ix3 b r s) = padAt (pixels V b) r s := by
  unfold res_main_v8
  clean_types
  pointwise
  split_ifs
  all_goals
    erw [v5_apply]
    unfold padAt
    congr 1
    apply Fin.ext
    simp only [clamp]
    omega

/-- The horizontal gradient. -/
theorem v67_apply : (res_main_v67 V : FVec Ideal S16x512x512 .f32) (ix3 b i j)
    = convR (filters V 0) (near (padAt (pixels V b)) i j) (biases V 0) := by
  unfold res_main_v67
  clean_types
  pointwise
  unfold convR near
  simp only [← v8_apply]
  simp
  rfl

/-- The vertical gradient. -/
theorem v126_apply : (res_main_v126 V : FVec Ideal S16x512x512 .f32) (ix3 b i j)
    = convR (filters V 1) (near (padAt (pixels V b)) i j) (biases V 1) := by
  unfold res_main_v126
  clean_types
  pointwise
  unfold convR near
  simp only [← v8_apply]
  simp
  rfl

/-- The reference's horizontal gradient at a pixel. -/
def gx : EReal := (res_main_v67 V : FVec Ideal S16x512x512 .f32) (ix3 b i j)

/-- The reference's vertical gradient at a pixel. -/
def gy : EReal := (res_main_v126 V : FVec Ideal S16x512x512 .f32) (ix3 b i j)

/-- The magnitude. -/
theorem v130_apply : (res_main_v130 V : FVec Ideal S16x512x512 .f32) (ix3 b i j) = magE (gx V b i j) (gy V b i j) := by
  unfold res_main_v130
  clean_types
  pointwise
  rfl

/-- The largest angle is π. -/
theorem pi_apply : (res_main_v132 V : FVec Ideal S_ .f32) ix0 = (Real.pi : EReal) := by
  unfold res_main_v132
  clean_types
  pointwise
  rw [← EReal.coe_zero, ← EReal.coe_one, ← EReal.coe_neg]
  change ((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) = _
  norm_num

/-- The ratio of the smaller side to the larger one. -/
theorem v139_apply : (res_main_v139 V : FVec Ideal S16x512x512 .f32) (ix3 b i j) = ratioE (gx V b i j) (gy V b i j) := by
  unfold res_main_v139
  clean_types
  pointwise [res_main_v133, res_main_v134]
  rw [lit_tiny]
  rfl

/-- The polynomial of the ratio. -/
theorem v154_apply : (res_main_v154 V : FVec Ideal S16x512x512 .f32) (ix3 b i j)
    = polyR (ratioE (gx V b i j) (gy V b i j)) := by
  unfold res_main_v154
  clean_types
  pointwise [res_main_v140]
  rw [v139_apply, lit_c1, lit_c3, lit_c5, lit_c7, lit_c9]
  rfl

/-- The angle in the first quadrant. -/
theorem v159_apply : (res_main_v159 V : FVec Ideal S16x512x512 .f32) (ix3 b i j) = firstR (gx V b i j) (gy V b i j) := by
  unfold res_main_v159
  clean_types
  pointwise [res_main_v133, res_main_v134]
  rw [v154_apply, pi_apply, lit_2]
  rfl

/-- The angle in the upper half plane. -/
theorem v164_apply : (res_main_v164 V : FVec Ideal S16x512x512 .f32) (ix3 b i j) = upperR (gx V b i j) (gy V b i j) := by
  unfold res_main_v164
  clean_types
  pointwise
  rw [v159_apply, pi_apply]
  rfl

/-- The signed angle, in bins. -/
theorem v172_apply : (res_main_v172 V : FVec Ideal S16x512x512 .f32) (ix3 b i j) = turnR (gx V b i j) (gy V b i j) := by
  unfold res_main_v172
  clean_types
  pointwise
  rw [v164_apply, pi_apply, lit_10]
  rfl

/-- The phase in bins. -/
theorem v177_apply : (res_main_v177 V : FVec Ideal S16x512x512 .f32) (ix3 b i j) = phaseR (gx V b i j) (gy V b i j) := by
  unfold res_main_v177
  clean_types
  pointwise
  rw [v172_apply, lit_9]
  rfl

/-- The signed remainder by ten of a small integer's word, made floored by the printed correction. -/
def floored (w d : BitVec 32) : BitVec 32 :=
  Scalar.select (IntOp.andi (IntOp.cmpi .ne (IntOp.cmpi .slt (IntOp.remsi .host w d) 0#32) (IntOp.cmpi .slt d 0#32))
    (IntOp.cmpi .ne (IntOp.remsi .host w d) 0#32)) (IntOp.addi (IntOp.remsi .host w d) d) (IntOp.remsi .host w d)

/-- The remainder by ten of a small word. -/
theorem floored_ten {n : ℤ} (h0 : -1 ≤ n) (h1 : n ≤ 10) : floored (BitVec.ofInt 32 n) 10#32 = BitVec.ofInt 32 (n % 10) := by
  interval_cases n <;> decide

/-- A small integer converted to a word. -/
theorem word_of_small {n : ℤ} (h0 : -1 ≤ n) (h1 : n ≤ 10) : Ideal.fptosi 32 (((n : ℝ)) : EReal) = BitVec.ofInt 32 n := by
  change BitVec.ofInt 32 (max _ (min _ (if (0 : ℝ) ≤ (n : ℝ) then ⌊(n : ℝ)⌋ else ⌈(n : ℝ)⌉))) = _
  rw [Int.floor_intCast, Int.ceil_intCast, ite_self]
  congr 1
  norm_num
  omega

/-- The upper bin. -/
theorem v189_apply : (res_main_v189 V : IVec S16x512x512 32) (ix3 b i j)
    = BitVec.ofInt 32 (⌈(phaseR (gx V b i j) (gy V b i j)).toReal⌉ % 10) := by
  unfold res_main_v189
  clean_types
  pointwise [res_main_call4_v4, res_main_call4_v2, res_main_call4_v0, res_main_v179]
  rw [v177_apply]
  obtain ⟨p, h0, h1, e⟩ := phaseR_real (gx V b i j) (gy V b i j)
  have hc0 : -1 ≤ ⌈p⌉ := by
    exact_mod_cast h0.trans (Int.le_ceil p)
  have hc1 : ⌈p⌉ ≤ 10 := Int.ceil_le.mpr (by exact_mod_cast h1)
  rw [e, EReal.toReal_coe, ceil_coe, ← floored_ten hc0 hc1, ← word_of_small hc0 hc1]
  rfl

/-- The lower bin. -/
theorem v222_apply : (res_main_v222 V : IVec S16x512x512 32) (ix3 b i j)
    = BitVec.ofInt 32 (⌊(phaseR (gx V b i j) (gy V b i j)).toReal⌋ % 10) := by
  unfold res_main_v222
  clean_types
  pointwise [res_main_call5_v4, res_main_call5_v2, res_main_call5_v0, res_main_v181]
  rw [v177_apply]
  obtain ⟨p, h0, h1, e⟩ := phaseR_real (gx V b i j) (gy V b i j)
  have hc0 : -1 ≤ ⌊p⌋ := Int.le_floor.mpr (by exact_mod_cast h0)
  have hc1 : ⌊p⌋ ≤ 10 := by
    have := Int.floor_mono h1
    simpa using this
  rw [e, EReal.toReal_coe, floor_coe, ← floored_ten hc0 hc1, ← word_of_small hc0 hc1]
  rfl

end Cert.ReferenceIdeal.Hog

end
-- ==== Proof.RefVotes.lean ====
/-
  The reference's two scatters: every pixel writes its upper share to one bin, then its lower share to another, and no
  other pixel writes there.
-/
module

public import proofs.«01_k».proof.Proof.RefPhase
public import Idealize.ShloMosaic.Lib.Routing.OpsSet

@[expose] public section

set_option maxRecDepth 16384

noncomputable section

namespace Cert.ReferenceIdeal.Hog

open Cert.ReferenceIdeal Cert.ReferenceIdeal.Gen Cert.ReferenceIdeal.Value Cert.Hog
open Idealize.ShloMosaic Idealize.ShloMosaic.TcCoe

/-- The word of index `n` with the printed wrap of negative indices. -/
def wrap (n w : BitVec 32) : BitVec 32 := Scalar.select (IntOp.cmpi .slt w 0#32) (IntOp.addi w n) w

/-- The index words of a scatter: the image, the bin, the row, the column. -/
def words (V : Valuation τ sig (Elt Ideal)) (w : IVec S16x512x512 32) : IVec S16x512x512x4 32 :=
  concatenate S16x512x512x4 3 [⟨S16x512x512x1, ((broadcastInDim S16x512x512x1 ![0, 1, 2] bcast_S16x512x512_S16x512x512x1_0_1_2
      (broadcastInDim S16x512x512 ![0, 1, 2] bcast_S16x1x1_S16x512x512_0_1_2 (select (cmpi .slt (res_main_v183 V)
        (broadcastInDim S16x1x1 ![] bcast_S_S16x1x1 (constantI S_ 32 0#32))) (addi (res_main_v183 V)
        (broadcastInDim S16x1x1 ![] bcast_S_S16x1x1 (constantI S_ 32 16#32))) (res_main_v183 V)))) : (⟨S16x512x512x1, .i32⟩ : BufTy).Contents (Elt Ideal))⟩,
    ⟨S16x512x512x1, ((broadcastInDim S16x512x512x1 ![0, 1, 2] bcast_S16x512x512_S16x512x512x1_0_1_2 (select (cmpi .slt w
        (broadcastInDim S16x512x512 ![] bcast_S_S16x512x512 (constantI S_ 32 0#32))) (addi w
        (broadcastInDim S16x512x512 ![] bcast_S_S16x512x512 (constantI S_ 32 10#32))) w)) : (⟨S16x512x512x1, .i32⟩ : BufTy).Contents (Elt Ideal))⟩,
    ⟨S16x512x512x1, ((broadcastInDim S16x512x512x1 ![0, 1, 2] bcast_S16x512x512_S16x512x512x1_0_1_2
      (broadcastInDim S16x512x512 ![0, 1, 2] bcast_S1x512x1_S16x512x512_0_1_2 (select (cmpi .slt (res_main_v185 V)
        (broadcastInDim S1x512x1 ![] bcast_S_S1x512x1 (constantI S_ 32 0#32))) (addi (res_main_v185 V)
        (broadcastInDim S1x512x1 ![] bcast_S_S1x512x1 (constantI S_ 32 512#32))) (res_main_v185 V)))) : (⟨S16x512x512x1, .i32⟩ : BufTy).Contents (Elt Ideal))⟩,
    ⟨S16x512x512x1, ((broadcastInDim S16x512x512x1 ![0, 1, 2] bcast_S16x512x512_S16x512x512x1_0_1_2
      (broadcastInDim S16x512x512 ![0, 1, 2] bcast_S1x1x512_S16x512x512_0_1_2 (select (cmpi .slt (res_main_v187 V)
        (broadcastInDim S1x1x512 ![] bcast_S_S1x1x512 (constantI S_ 32 0#32))) (addi (res_main_v187 V)
        (broadcastInDim S1x1x512 ![] bcast_S_S1x1x512 (constantI S_ 32 512#32))) (res_main_v187 V)))) : (⟨S16x512x512x1, .i32⟩ : BufTy).Contents (Elt Ideal))⟩]
    concatenates_S16x512x512x1_S16x512x512x1_S16x512x512x1_S16x512x512x1_S16x512x512x4_d3

/-- What the first scatter writes. -/
def upper (V : Valuation τ sig (Elt Ideal)) : FVec Ideal S16x512x512 .f32 :=
  mulf (res_main_v130 V) (subf (res_main_v177 V) (sitofp .f32 (res_main_v181 V)))

/-- What the second scatter writes. -/
def lower (V : Valuation τ sig (Elt Ideal)) : FVec Ideal S16x512x512 .f32 :=
  mulf (res_main_v130 V) (subf (sitofp .f32 (res_main_v179 V)) (res_main_v177 V))

/-- The votes are two scatters, the lower share over the upper one. -/
theorem v254_eq (V : Valuation τ sig (Elt Ideal)) : res_main_v254 V
    = Host.scatter scatter_S16x10x512x512_S16x512x512x4_S16x512x512_n_0123_0123_3 (fun _ b => b)
        (Host.scatter scatter_S16x10x512x512_S16x512x512x4_S16x512x512_n_0123_0123_3 (fun _ b => b)
          (broadcastInDim S16x10x512x512 ![] bcast_S_S16x10x512x512 (constant S_ .f32 0x00000000#32)) (words V (res_main_v189 V)) (upper V))
        (words V (res_main_v222 V)) (lower V) := rfl

variable (V : Valuation τ sig (Elt Ideal)) (b : Fin 16) (i j : Fin 512) (w : IVec S16x512x512 32)

/-- The scatter's image number. -/
theorem words_image : words V w (ix4 b i j 0) = wrap 16#32 (BitVec.ofNat 32 b.val) := by
  pointwise [words, res_main_v183]
  rfl

/-- The scatter's bin number. -/
theorem words_bin : words V w (ix4 b i j 1) = wrap 10#32 (w (ix3 b i j)) := by
  pointwise [words]
  rfl

/-- The scatter's row number. -/
theorem words_row : words V w (ix4 b i j 2) = wrap 512#32 (BitVec.ofNat 32 i.val) := by
  pointwise [words, res_main_v185]
  rfl

/-- The scatter's column number. -/
theorem words_col : words V w (ix4 b i j 3) = wrap 512#32 (BitVec.ofNat 32 j.val) := by
  pointwise [words, res_main_v187]
  rfl

/-- Where an update of the scatter lands, along an axis. -/
theorem start_eq (idx : IVec S16x512x512x4 32) (a : Fin 4) :
    scatter_S16x10x512x512_S16x512x512x4_S16x512x512_n_0123_0123_3.start (ix3 b i j) idx a = (idx (ix4 b i j a)).toInt := by
  have h : ∀ a : Fin 4, a ∈ scatter_S16x10x512x512_S16x512x512x4_S16x512x512_n_0123_0123_3.scatterDimsToOperandDims := by decide
  unfold ScatterDims.start
  rw [dif_pos (h a)]
  congr 2
  funext c
  apply Fin.ext
  fin_cases c
  · rfl
  · rfl
  · rfl
  · fin_cases a <;> rfl

/-- An update of the scatter is one element. -/
theorem window_eq (k : S16x512x512.Idx) (a : Fin 4) :
    scatter_S16x10x512x512_S16x512x512x4_S16x512x512_n_0123_0123_3.window k a = 0 := by
  fin_cases a <;> rfl

/-- A small word is not wrapped. -/
theorem wrap_small (n : BitVec 32) {k : ℕ} (h : k < 2 ^ 31) : (wrap n (BitVec.ofNat 32 k)).toInt = (k : ℤ) := by
  have hk : (BitVec.ofNat 32 k).toNat = k := by
    rw [BitVec.toNat_ofNat]
    exact Nat.mod_eq_of_lt (h.trans (by norm_num))
  unfold wrap
  rw [Routing.wrap_of_lt _ _ (by rw [hk]; exact h), BitVec.toInt_eq_toNat_of_lt (by rw [hk]; omega), hk]

/-- A remainder by ten is not wrapped. -/
theorem wrap_mod (n : BitVec 32) (k : ℤ) : (wrap n (BitVec.ofInt 32 (k % 10))).toInt = k % 10 := by
  obtain ⟨m, hm⟩ : ∃ m : ℕ, k % 10 = (m : ℤ) := ⟨(k % 10).toNat, by omega⟩
  rw [hm, BitVec.ofInt_natCast, wrap_small n (by omega)]

/-- Pixel `k` writes at bin `c` of pixel `(b, i, j)` exactly when it is that pixel and `c` is its bin. -/
theorem lands {f : Fin 16 → Fin 512 → Fin 512 → ℤ} (hw : ∀ b i j, w (ix3 b i j) = BitVec.ofInt 32 (f b i j % 10))
    (b' : Fin 16) (i' j' : Fin 512) (c : Fin 10) :
    scatter_S16x10x512x512_S16x512x512x4_S16x512x512_n_0123_0123_3.resultIdx? (ix3 b' i' j') (words V w) = some (ix4 b c i j)
      ↔ b' = b ∧ i' = i ∧ j' = j ∧ f b i j % 10 = (c.val : ℤ) := by
  rw [Routing.resultIdx?_eq_some]
  simp only [start_eq, window_eq]
  have e : (∀ a : Fin 4, (words V w (ix4 b' i' j' a)).toInt + ((0 : ℕ) : ℤ) = (((ix4 b c i j : S16x10x512x512.Idx) a).val : ℤ))
      ↔ (b'.val : ℤ) = b.val ∧ f b' i' j' % 10 = (c.val : ℤ) ∧ (i'.val : ℤ) = i.val ∧ (j'.val : ℤ) = j.val := by
    have h0 := words_image V b' i' j' w
    have h1 := words_bin V b' i' j' w
    have h2 := words_row V b' i' j' w
    have h3 := words_col V b' i' j' w
    rw [hw] at h1
    have k0 := congrArg BitVec.toInt h0
    have k1 := congrArg BitVec.toInt h1
    have k2 := congrArg BitVec.toInt h2
    have k3 := congrArg BitVec.toInt h3
    rw [wrap_small _ (by omega)] at k0 k2 k3
    rw [wrap_mod] at k1
    constructor
    · intro h
      have a0 := h 0
      have a1 := h 1
      have a2 := h 2
      have a3 := h 3
      rw [k0] at a0
      rw [k1] at a1
      rw [k2] at a2
      rw [k3] at a3
      rw [Nat.cast_zero, add_zero] at a0 a1 a2 a3
      exact ⟨a0, a1, a2, a3⟩
    · rintro ⟨a0, a1, a2, a3⟩ a
      rw [Nat.cast_zero, add_zero]
      match a with
      | 0 => rw [k0]; exact a0
      | 1 => rw [k1]; exact a1
      | 2 => rw [k2]; exact a2
      | 3 => rw [k3]; exact a3
  refine e.trans ⟨?_, ?_⟩
  · rintro ⟨h0, h1, h2, h3⟩
    obtain rfl : b' = b := Fin.ext (by omega)
    obtain rfl : i' = i := Fin.ext (by omega)
    obtain rfl : j' = j := Fin.ext (by omega)
    exact ⟨rfl, rfl, rfl, h1⟩
  · rintro ⟨rfl, rfl, rfl, h⟩
    exact ⟨rfl, h, rfl, rfl⟩

/-- One scatter: the pixel's own update in its bin, the array's own entry in the other bins. -/
theorem scatter_apply (x0 : FVec Ideal S16x10x512x512 .f32) (u : FVec Ideal S16x512x512 .f32)
    {f : Fin 16 → Fin 512 → Fin 512 → ℤ} (hw : ∀ b i j, w (ix3 b i j) = BitVec.ofInt 32 (f b i j % 10)) (c : Fin 10) :
    Host.scatter scatter_S16x10x512x512_S16x512x512x4_S16x512x512_n_0123_0123_3 (fun _ b => b) x0 (words V w) u (ix4 b c i j)
      = if f b i j % 10 = (c.val : ℤ) then u (ix3 b i j) else x0 (ix4 b c i j) := by
  split_ifs with h
  · refine Routing.scatter_set_hit _ _ _ _ _ _ (fun k hk => ?_) (ix3 b i j) ((lands V b i j w hw b i j c).mpr ⟨rfl, rfl, rfl, h⟩)
    idx_vars k
    obtain ⟨rfl, rfl, rfl, -⟩ := (lands V b i j w hw _ _ _ c).mp hk
    rfl
  · refine Routing.scatter_set_miss _ _ _ _ _ (fun k hk => ?_)
    idx_vars k
    exact h ((lands V b i j w hw _ _ _ c).mp hk).2.2.2

/-- A rounded position survives the trip through a signed word. -/
theorem word_back {n : ℤ} (h0 : -1 ≤ n) (h1 : n ≤ 10) :
    (((Ideal.fptosi 32 (((n : ℝ)) : EReal)).toInt : ℝ) : EReal) = ((n : ℝ) : EReal) := by
  rw [word_of_small h0 h1]
  have : (BitVec.ofInt 32 n).toInt = n := by interval_cases n <;> decide
  rw [this]

/-- The share of the upper bin. -/
theorem upper_apply : upper V (ix3 b i j) = magE (gx V b i j) (gy V b i j)
    * (phaseR (gx V b i j) (gy V b i j) - Ideal.liftRound Int.floor (phaseR (gx V b i j) (gy V b i j))) := by
  pointwise [upper, res_main_v181]
  rw [v130_apply, v177_apply]
  obtain ⟨p, h0, h1, e⟩ := phaseR_real (gx V b i j) (gy V b i j)
  have hc0 : -1 ≤ ⌊p⌋ := Int.le_floor.mpr (by exact_mod_cast h0)
  have hc1 : ⌊p⌋ ≤ 10 := by
    have := Int.floor_mono h1
    simpa using this
  rw [e, floor_coe]
  exact congrArg (fun z => _ * (_ - z)) (word_back hc0 hc1)

/-- The share of the lower bin. -/
theorem lower_apply : lower V (ix3 b i j) = magE (gx V b i j) (gy V b i j)
    * (Ideal.liftRound Int.ceil (phaseR (gx V b i j) (gy V b i j)) - phaseR (gx V b i j) (gy V b i j)) := by
  pointwise [lower, res_main_v179]
  rw [v130_apply, v177_apply]
  obtain ⟨p, h0, h1, e⟩ := phaseR_real (gx V b i j) (gy V b i j)
  have hc0 : -1 ≤ ⌈p⌉ := by exact_mod_cast h0.trans (Int.le_ceil p)
  have hc1 : ⌈p⌉ ≤ 10 := Int.ceil_le.mpr (by exact_mod_cast h1)
  rw [e, ceil_coe]
  exact congrArg (fun z => _ * (z - _)) (word_back hc0 hc1)

/-- The scattered array holds every pixel's share in every bin. -/
theorem v254_apply (c : Fin 10) : (res_main_v254 V : FVec Ideal S16x10x512x512 .f32) (ix4 b c i j)
    = voteR (gx V b i j) (gy V b i j) c := by
  rw [v254_eq, scatter_apply V b i j _ _ _ (v222_apply V), scatter_apply V b i j _ _ _ (v189_apply V), upper_apply, lower_apply]
  unfold voteR
  have z : (broadcastInDim S16x10x512x512 ![] bcast_S_S16x10x512x512 (constant (F := Ideal) S_ .f32 0x00000000#32)
      : FVec Ideal S16x10x512x512 .f32) (ix4 b c i j) = 0 := by pointwise
  rw [z]

end Cert.ReferenceIdeal.Hog

end
-- ==== Proof.RefCells.lean ====
/-
  The reference's cells: the mean of each bin's shares over 8 by 8 pixels, laid out by block, and their normalisation.
-/
module

public import proofs.«01_k».proof.Proof.RefVotes
public import proofs.«01_k».proof.Proof.Cell

@[expose] public section

set_option maxRecDepth 16384

noncomputable section

namespace Cert.ReferenceIdeal.Hog

open Cert.ReferenceIdeal Cert.ReferenceIdeal.Gen Cert.ReferenceIdeal.Value Cert.Hog
open Idealize.ShloMosaic Idealize.ShloMosaic.TcCoe

/-- The sum over the fourth and sixth axes of six. -/
theorem sum_two_axes (v : S16x10x64x8x64x8.Idx → EReal) (b : Fin 16) (c : Fin 10) (i j : Fin 64) :
    Ideal.hostReduceAdd reducesTo_S16x10x64x8x64x8_S16x10x64x64_d3_5 v 0 (ix4 b c i j)
      = ∑ a : Fin 8, ∑ d : Fin 8, v (ix6 b c i a j d) := by
  unfold Ideal.hostReduceAdd
  rw [zero_add, ← Finset.sum_product']
  refine Finset.sum_nbij' (fun k => (k 3, k 5)) (fun p => ix6 b c i p.1 j p.2) ?_ ?_ ?_ ?_ ?_
  · intro k _
    exact Finset.mem_product.mpr ⟨Finset.mem_univ _, Finset.mem_univ _⟩
  · intro p _
    rw [Finset.mem_filter]
    refine ⟨Finset.mem_univ _, ?_⟩
    funext a
    apply Fin.ext
    fin_cases a <;> rfl
  · intro k hk
    have e := (Finset.mem_filter.mp hk).2
    have e0 : (k 0).val = b.val := congrArg Fin.val (congrFun e 0)
    have e1 : (k 1).val = c.val := congrArg Fin.val (congrFun e 1)
    have e2 : (k 2).val = i.val := congrArg Fin.val (congrFun e 2)
    have e4 : (k 4).val = j.val := congrArg Fin.val (congrFun e 3)
    funext a
    apply Fin.ext
    fin_cases a
    · exact e0.symm
    · exact e1.symm
    · exact e2.symm
    · rfl
    · exact e4.symm
    · rfl
  · intro p _
    rfl
  · intro k hk
    have e := (Finset.mem_filter.mp hk).2
    have e0 : (k 0).val = b.val := congrArg Fin.val (congrFun e 0)
    have e1 : (k 1).val = c.val := congrArg Fin.val (congrFun e 1)
    have e2 : (k 2).val = i.val := congrArg Fin.val (congrFun e 2)
    have e4 : (k 4).val = j.val := congrArg Fin.val (congrFun e 3)
    congr 1
    funext a
    apply Fin.ext
    fin_cases a
    · exact e0
    · exact e1
    · exact e2
    · rfl
    · exact e4
    · rfl

variable (V : Valuation τ sig (Elt Ideal))

/-- The reference's cell of image `b`, bin `c`, at `(i, j)`. -/
def cell (b : Fin 16) (c : Fin 10) (i j : Fin 64) : EReal := cellMean (fun r s => voteR (gx V b r s) (gy V b r s) c) i j

/-- The image cut into cells, at an index. -/
theorem cells_apply (x : FVec Ideal S16x10x512x512 .f32) (b : Fin 16) (c : Fin 10) (i j : Fin 64) (a d : Fin 8) :
    (shapeCast S16x10x64x8x64x8 x shapeCasts_S16x10x512x512_S16x10x64x8x64x8) (ix6 b c i a j d)
      = x (ix4 b c ⟨i.val * 8 + a.val, by omega⟩ ⟨j.val * 8 + d.val, by omega⟩) := by
  refine shapeCast_apply x _ _ _ ?_
  rw [Shape.rowMajor_val_four, Shape.rowMajor_val_six]
  simp
  omega

/-- The mean of an array over every cell, as the reference takes it. -/
theorem mean_apply (x : FVec Ideal S16x10x512x512 .f32) (b : Fin 16) (c : Fin 10) (i j : Fin 64) :
    Ideal.div (Ideal.hostReduceAdd reducesTo_S16x10x64x8x64x8_S16x10x64x64_d3_5
        (shapeCast S16x10x64x8x64x8 x shapeCasts_S16x10x512x512_S16x10x64x8x64x8) 0 (ix4 b c i j)) (Ideal.ofBits .f32 0x42800000#32)
      = cellMean (fun r s => x (ix4 b c r s)) i j := by
  rw [sum_two_axes, lit_64]
  unfold cellMean
  simp only [cells_apply]

/-- The rearranged array holds the cells: a row per bin and place in a block, a column per block. -/
theorem v261_apply (k : Fin 40) (t : Fin 16384) : (res_main_v261 V : FVec Ideal S40x16384 .f32) (ix2 k t)
    = cell V ⟨t.val / 1024, by omega⟩ ⟨k.val / 4, by omega⟩ ⟨t.val / 32 % 32 * 2 + k.val / 2 % 2, by omega⟩
        ⟨t.val % 32 * 2 + k.val % 2, by omega⟩ := by
  unfold res_main_v261
  clean_types
  pointwise
  have e : ∀ b c i j, cellMean (fun r s => (res_main_v254 V : FVec Ideal S16x10x512x512 .f32) (ix4 b c r s)) i j = cell V b c i j := by
    intro b c i j
    unfold cell
    exact congrArg (fun f => cellMean f i j) (funext fun r => funext fun s => v254_apply V b r s c)
  rw [← e]
  generalize (res_main_v254 V : FVec Ideal S16x10x512x512 .f32) = x
  rw [← mean_apply]

end Cert.ReferenceIdeal.Hog

end
-- ==== Proof.RefResult.lean ====
/-
  The reference's result at an index: the cell over the norm of its block of two by two cells and ten bins.
-/
module

public import proofs.«01_k».proof.Proof.RefCells

@[expose] public section

set_option maxRecDepth 16384

noncomputable section

namespace Cert.ReferenceIdeal.Hog

open Cert.ReferenceIdeal Cert.ReferenceIdeal.Gen Cert.ReferenceIdeal.Value Cert.Hog
open Idealize.ShloMosaic Idealize.ShloMosaic.TcCoe

/-- A sum over the forty rows of a block, by bin and by place in the block. -/
theorem sum_forty (f : Fin 10 → Fin 2 → Fin 2 → EReal) :
    ∑ k : Fin 40, f ⟨k.val / 4, by omega⟩ ⟨k.val / 2 % 2, by omega⟩ ⟨k.val % 2, by omega⟩ = ∑ c, ∑ p, ∑ q, f c p q := by
  have e : ∑ c, ∑ p, ∑ q, f c p q = ∑ x : Fin 10 × Fin 2 × Fin 2, f x.1 x.2.1 x.2.2 := by
    rw [Fintype.sum_prod_type]
    refine Finset.sum_congr rfl fun c _ => ?_
    rw [Fintype.sum_prod_type]
  rw [e]
  refine Finset.sum_nbij' (fun k => (⟨k.val / 4, by omega⟩, ⟨k.val / 2 % 2, by omega⟩, ⟨k.val % 2, by omega⟩))
    (fun x => ⟨x.1.val * 4 + x.2.1.val * 2 + x.2.2.val, by omega⟩) ?_ ?_ ?_ ?_ ?_
  · intro k _; exact Finset.mem_univ _
  · intro k _; exact Finset.mem_univ _
  · intro k _
    apply Fin.ext
    dsimp only
    omega
  · rintro ⟨c, p, q⟩ _
    refine Prod.ext (Fin.ext ?_) (Prod.ext (Fin.ext ?_) (Fin.ext ?_)) <;> dsimp only <;> omega
  · intro k _
    rfl

/-- The reference's last operations, from the array of cells laid out by block. -/
def laid (v : FVec Ideal S40x16384 .f32) : FVec Ideal S16x10x64x64 .f32 :=
  shapeCast _ (transpose S16x10x32x2x32x2 [3, 0, 4, 1, 5, 2] (shapeCast _ (Host.divf v (broadcastInDim S40x16384 ![0, 1] bcast_S1x16384_S40x16384_0_1 (broadcastInDim S1x16384 ![1] bcast_S16384_S1x16384_1 (Host.sqrt (addf (Host.reduceAdd (mulf v v) (constant S_ .f32 0x00000000#32) reducesTo_S40x16384_S16384_d0 h_S_) (broadcastInDim S16384 ![] bcast_S_S16384 (constant S_ .f32 0x2EDBE6FF#32))))))) shapeCasts_S40x16384_S10x2x2x16x32x32) transposes_S10x2x2x16x32x32_S16x10x32x2x32x2_3_0_4_1_5_2) shapeCasts_S16x10x32x2x32x2_S16x10x64x64

/-- The normalised array laid out again, at an index. -/
theorem laid_apply (v : FVec Ideal S40x16384 .f32) (b : Fin 16) (c : Fin 10) (i j : Fin 64) : laid v (ix4 b c i j)
    = Ideal.div (v (ix2 ⟨c.val * 4 + i.val % 2 * 2 + j.val % 2, by omega⟩ ⟨b.val * 1024 + i.val / 2 * 32 + j.val / 2, by omega⟩))
        (Ideal.sqrt (∑ k, v (ix2 k ⟨b.val * 1024 + i.val / 2 * 32 + j.val / 2, by omega⟩)
          * v (ix2 k ⟨b.val * 1024 + i.val / 2 * 32 + j.val / 2, by omega⟩) + (eps : EReal))) := by
  pointwise [laid]
  rw [lit_eps]

/-- The quotient of a row by the norm of its column of the layout, when the rows hold the cells of a block. -/
theorem hog_of_rows (K : Fin 10 → Fin 64 → Fin 64 → EReal) (c : Fin 10) (i j : Fin 64) (r : Fin 40 → EReal)
    (h : ∀ k : Fin 40, r k = K ⟨k.val / 4, by omega⟩ ⟨i.val / 2 * 2 + k.val / 2 % 2, by omega⟩ ⟨j.val / 2 * 2 + k.val % 2, by omega⟩) :
    Ideal.div (r ⟨c.val * 4 + i.val % 2 * 2 + j.val % 2, by omega⟩) (Ideal.sqrt (∑ k, r k * r k + (eps : EReal))) = hog K c i j := by
  have e : r ⟨c.val * 4 + i.val % 2 * 2 + j.val % 2, by omega⟩ = K c i j := by
    rw [h]
    have e0 : (⟨(c.val * 4 + i.val % 2 * 2 + j.val % 2) / 4, by omega⟩ : Fin 10) = c := Fin.ext (by dsimp only; omega)
    have e1 : (⟨i.val / 2 * 2 + (c.val * 4 + i.val % 2 * 2 + j.val % 2) / 2 % 2, by omega⟩ : Fin 64) = i := Fin.ext (by dsimp only; omega)
    have e2 : (⟨j.val / 2 * 2 + (c.val * 4 + i.val % 2 * 2 + j.val % 2) % 2, by omega⟩ : Fin 64) = j := Fin.ext (by dsimp only; omega)
    rw [e0, e1, e2]
  rw [e]
  unfold hog blockSum
  rw [← sum_forty (fun c p q => K c ⟨i.val / 2 * 2 + p.val, by omega⟩ ⟨j.val / 2 * 2 + q.val, by omega⟩
    * K c ⟨i.val / 2 * 2 + p.val, by omega⟩ ⟨j.val / 2 * 2 + q.val, by omega⟩)]
  simp only [h]

/-- Equal places have equal cells. -/
theorem cell_congr (V : Valuation τ sig (Elt Ideal)) {b b' : Fin 16} {c : Fin 10} {i i' j j' : Fin 64} (hb : b = b')
    (hi : i = i') (hj : j = j') : cell V b c i j = cell V b' c i' j' := by
  subst hb hi hj; rfl

/-- The reference's result at an index. -/
theorem result_apply (V : Valuation τ sig (Elt Ideal)) (b : Fin 16) (c : Fin 10) (i j : Fin 64) :
    laid (res_main_v261 V) (ix4 b c i j) = hog (cell V b) c i j := by
  rw [laid_apply]
  refine hog_of_rows (cell V b) c i j
    (fun k => (res_main_v261 V : FVec Ideal S40x16384 .f32) (ix2 k ⟨b.val * 1024 + i.val / 2 * 32 + j.val / 2, by omega⟩)) (fun k => ?_)
  refine (v261_apply V k _).trans (cell_congr V (Fin.ext ?_) (Fin.ext ?_) (Fin.ext ?_)) <;> dsimp only <;> omega

end Cert.ReferenceIdeal.Hog

end
-- ==== Proof.Reference.lean ====
/-
  The reference's run, read: its result array is the same function of the images and the biases as the kernel's.
-/
module

public import proofs.«01_k».proof.Proof.RefResult

@[expose] public section

set_option maxRecDepth 16384

noncomputable section

namespace Cert.ReferenceIdeal.Hog

open Cert.ReferenceIdeal Cert.ReferenceIdeal.Gen Cert.ReferenceIdeal.Value Cert.Hog Idealize.ShloMosaic Idealize.ShloMosaic.TcCoe
open Idealize.SL.Sem

/-- With the Sobel filters for weights, an image's cells are the kernel's. -/
theorem cell_image (V : Valuation τ sig (Elt Ideal)) (h : ∀ o r s, filters V o r s = (sobel o r s : EReal)) (b : Fin 16) :
    cell V b = imageCell (pixels V b) (biases V) := by
  have h0 : filters V 0 = fun r s => (sobel 0 r s : EReal) := funext fun r => funext fun s => h 0 r s
  have h1 : filters V 1 = fun r s => (sobel 1 r s : EReal) := funext fun r => funext fun s => h 1 r s
  funext c i j
  unfold cell imageCell
  refine congrArg (fun f => cellMean f i j) (funext fun r => funext fun s => ?_)
  unfold shareR gx gy
  rw [v67_apply, v126_apply, h0, h1]

/-- The reference's result array. -/
theorem laid_eq (V : Valuation τ sig (Elt Ideal)) (h : ∀ o r s, filters V o r s = (sobel o r s : EReal)) :
    laid (res_main_v261 V) = fun y => batch (pixels V) (biases V) (y 0) (y 1) (y 2) (y 3) := by
  funext y
  obtain ⟨b, c, i, j, rfl⟩ : ∃ (b : Fin 16) (c : Fin 10) (i j : Fin 64), y = ix4 b c i j := ⟨y 0, y 1, y 2, y 3, by
    funext a; match a with | ⟨0, _⟩ => rfl | ⟨1, _⟩ => rfl | ⟨2, _⟩ => rfl | ⟨3, _⟩ => rfl⟩
  rw [result_apply, cell_image V h]
  rfl

variable (m : (ℓ : Loc nD τ sig) → Buf (Elt Ideal) ℓ) (ρ : Dev nD → PrngReg)

/-- The reference's result from its arguments: the sixteen images `x` and the biases `b`. -/
def result (x : FVec Ideal S16x3x512x512 .f32) (b : FVec Ideal S2 .f32) : FVec Ideal S16x10x64x64 .f32 := fun y =>
  batch (fun n k i j => x (ix4 n k i j)) (fun o => b (ix1 o)) (y 0) (y 1) (y 2) (y 3)

/-- The run, with the Sobel filters for weights: the result array at its function of the arguments, the arguments unchanged. -/
theorem run (h : ∀ c : Dev nD, ∀ o r s, (m ((c.tc : Thread nD τ).loc main_arg1) : FVec Ideal S2x1x3x3 .f32) (ix4 o 0 r s) = (sobel o r s : EReal)) :
    θ_run defs (onTc (τ := τ) (main (F := Ideal))) ⟨m, fun _ => 0, ρ⟩ fun r => ∀ c : Dev nD,
      r.2.mem ((c.tc : Thread nD τ).loc main_v272) = result (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r e c => ⟨(e c).1.trans (laid_eq (StableHlo.launchContents m c) (h c)), (e c).2⟩)
    (Cert.ReferenceIdeal.Value.run m ρ)

end Cert.ReferenceIdeal.Hog

end
-- ==== Proof.Weights.lean ====
/-
  The precondition read back: the convolution's weights are the two Sobel filters.
-/
module

public import proofs.«01_k».proof.Proof.Gradient
public import proofs.«01_k».proof.Pre_sobel_weights
public import Idealize.ShloMosaic.Lib.ReduceAll
public import Idealize.ShloMosaic.Lib.Pipeline.ValueKit
public import Idealize.ShloMosaic.Lib.Tactic.CleanTypes

@[expose] public section

noncomputable section

namespace Cert.Hog

open Idealize.ShloMosaic Cert.Pre_sobel_weights

/-- The table of the precondition at an index, row-major. -/
theorem place_eq (o : Fin 2) (r s : Fin 3) :
    S2x3x3.rowMajor (ix3 o r s) = (⟨(o.val * 3 + r.val) * 3 + s.val, by omega⟩ : Fin 18) := by
  fin_cases o <;> fin_cases r <;> fin_cases s <;> exact Fin.ext (by decide +kernel)

/-- The table holds the Sobel filters. -/
theorem lit_sobel (o : Fin 2) (r s : Fin 3) :
    Ideal.ofBits .f32 (lit0 (S2x3x3.rowMajor (ix3 o r s))) = (sobel o r s : EReal) := by
  rw [place_eq]
  fin_cases o <;> fin_cases r <;> fin_cases s <;>
    simp [lit0, sobel, Ideal.ofBits, Ideal.ieee, -EReal.coe_mul] <;> norm_num

variable [Facts]

/-- Under the precondition every weight is the Sobel filters' own. -/
theorem weights_eq (x : FVec Ideal S16x3x512x512 .f32) (w : FVec Ideal S2x1x3x3 .f32) (b : FVec Ideal S2 .f32)
    (h : fn x w b = fun _ => 1#1) (o : Fin 2) (r s : Fin 3) : w (ix4 o 0 r s) = (sobel o r s : EReal) := by
  have e := congrFun h (ix0)
  unfold fn at e
  dsimp only at e
  haveI : Subsingleton S_.Idx := ⟨fun a b => funext fun d => d.elim0⟩
  have e' := Host.reduce_andi_all _ _ _ _ _ e (ix4 o 0 r s)
  have hb : broadcastInDim S2x1x3x3 ![0, 2, 3] Facts.bcast_S2x3x3_S2x1x3x3_0_2_3
      (fun i => FloatOps.ofBits .f32 (lit0 (S2x3x3.rowMajor i)) : FVec Ideal S2x3x3 .f32) (ix4 o 0 r s) = (sobel o r s : EReal) := by
    refine Eq.trans ?_ (lit_sobel o r s)
    clean_types
    pointwise
  simp only [cmpf] at e'
  rw [hb] at e'
  have e2 : BitVec.ofBool (decide (w (ix4 o 0 r s) = (sobel o r s : EReal))) = 1#1 := e'
  by_contra hne
  rw [decide_eq_false hne] at e2
  exact absurd e2 (by decide)

end Cert.Hog

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_sobel_weights
public import Idealize.ShloMosaic.Adequacy
public import Idealize.ShloMosaic.Init
public import Idealize.ShloMosaic.Lib.Quiescent
public import proofs.«01_k».proof.Proof.KArray
public import proofs.«01_k».proof.Proof.Reference
public import proofs.«01_k».proof.Proof.Weights

@[expose] public section

noncomputable section

namespace Cert.Proof

open Idealize.ShloMosaic Idealize.ShloMosaic.TcCoe Idealize.SL.Sem Cert.Hog

/-- The reference's frame: the arguments kept, and no counter to move. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
          r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, Idealize.ShloMosaic.sem_eq_zero_of_no_sems (by decide) r.2⟩)
    (Cert.ReferenceIdeal.Value.run m g)

/-- The named constants, site by site. -/
theorem preserves : Cert.preserves_Kernel_KernelIdeal :=
  ⟨IdealRules.named_const.statement Cert.KernelIdeal.κ "third" .f32 _ _ rfl,
    IdealRules.named_const.statement Cert.KernelIdeal.κ "a9" .f32 _ _ rfl,
    IdealRules.named_const.statement Cert.KernelIdeal.κ "a7" .f32 _ _ rfl,
    IdealRules.named_const.statement Cert.KernelIdeal.κ "a5" .f32 _ _ rfl,
    IdealRules.named_const.statement Cert.KernelIdeal.κ "a3" .f32 _ _ rfl,
    IdealRules.named_const.statement Cert.KernelIdeal.κ "a1" .f32 _ _ rfl⟩

/-- On the extended reals the kernel and the reference leave the same array, where the weights are the Sobel filters. -/
theorem algebraic : Cert.algebraic_KernelIdeal_ReferenceIdeal_pre_sobel_weights
    (hKernelIdeal := Cert.KernelIdeal.Gen.facts) (hReferenceIdeal := Cert.ReferenceIdeal.Gen.facts)
    (hPre_sobel_weights := Cert.Pre_sobel_weights.Gen.facts) := by
  intro m g m' g' hpre hagree
  refine ⟨fun c => Cert.KernelIdeal.Hog.result _ _, Cert.KernelIdeal.Hog.run m g, ?_⟩
  refine (θ_run Cert.ReferenceIdeal.defs _ _).mono (fun r h c => ⟨(h c).1.trans ?_, (h c).2⟩)
    (Cert.ReferenceIdeal.Hog.run m' g' fun c o r s =>
      (congrFun (hagree c).2.1 (ix4 o 0 r s)).trans (weights_eq _ _ _ (hpre c) o r s))
  rw [(hagree c).1, (hagree c).2.2]
  rfl

theorem claim : Cert.Claim :=
  ⟨Cert.Kernel.Gen.facts, Cert.KernelIdeal.Gen.facts, Cert.ReferenceIdeal.Gen.facts, Cert.Pre_sobel_weights.Gen.facts,
    fun m g _ => Cert.Kernel.Gen.frame m g, fun m g _ => Cert.KernelIdeal.Gen.frame m g, fun m g _ => Cert.KernelIdeal.Gen.frame m g,
    fun m g _ => reference_frame m g, fun m g _ => reference_frame m g, preserves, algebraic⟩

end Cert.Proof

end
